-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S48x16x64x768 : Shape := ⟨4, ![48, 16, 64, 768]⟩
abbrev S3x3x512x768 : Shape := ⟨4, ![3, 3, 512, 768]⟩
abbrev S768 : Shape := ⟨1, ![768]⟩
abbrev S_ : Shape := ⟨0, ![]⟩
abbrev S48 : Shape := ⟨1, ![48]⟩

class Facts : Prop where
  bitsLt_bf16_f32 : FTy.bits .bf16 < FTy.bits .f32
  reducesTo_S48x16x64x768_S48_d1_2_3 : S48x16x64x768.ReducesTo [1, 2, 3] S48
  h_S_ : 0 < S_.numel
  bcast_S_S48 : S_.BroadcastsInDim S48 (![] : Fin 0 → Fin S48.rank)

variable [Facts]

def fn {F : FTy → Type} [FloatOps F] (main_arg0 : FVec F S48x16x64x768 .bf16) (main_arg1 : FVec F S3x3x512x768 .fp8e4m3) (main_arg2 : FVec F S768 .f32) : IVec S48 1 :=
  let main_v0 : FVec F S48x16x64x768 .f32 := (extf .f32 · bitsLt_bf16_f32) main_arg0
  let main_v1 : FVec F S48x16x64x768 .f32 := Host.absf main_v0
  let main_cst : FVec F S_ .f32 := constant S_ .f32 0xFF800000#32
  let main_v2 : FVec F S48 .f32 := (fun x v => Host.reduce FloatOps.maximumf x v reducesTo_S48x16x64x768_S48_d1_2_3 h_S_) main_v1 main_cst
  let main_cst_0 : FVec F S_ .f32 := constant S_ .f32 0x00000000#32
  let main_v3 : FVec F S48 .f32 := broadcastInDim S48 ![] bcast_S_S48 main_cst_0
  let main_v4 : IVec S48 1 := cmpf .oeq main_v2 main_v3
  let main_cst_1 : FVec F S_ .f32 := constant S_ .f32 0x07E00000#32
  let main_v5 : FVec F S48 .f32 := broadcastInDim S48 ![] bcast_S_S48 main_cst_1
  let main_v6 : IVec S48 1 := cmpf .oge main_v2 main_v5
  let main_cst_2 : FVec F S_ .f32 := constant S_ .f32 0x7F7F0000#32
  let main_v7 : FVec F S48 .f32 := broadcastInDim S48 ![] bcast_S_S48 main_cst_2
  let main_v8 : IVec S48 1 := cmpf .ole main_v2 main_v7
  let main_v9 : IVec S48 1 := andi main_v6 main_v8
  let main_v10 : IVec S48 1 := ori main_v4 main_v9
  main_v10
-- ==== Kernel.lean ====
abbrev S48x16x64x768 : Shape := ⟨4, ![48, 16, 64, 768]⟩
abbrev S3x3x512x768 : Shape := ⟨4, ![3, 3, 512, 768]⟩
abbrev S768 : Shape := ⟨1, ![768]⟩
abbrev S48x1024x768 : Shape := ⟨3, ![48, 1024, 768]⟩
abbrev S9x512x768 : Shape := ⟨3, ![9, 512, 768]⟩
abbrev S1x768 : Shape := ⟨2, ![1, 768]⟩
abbrev S48x1024x512 : Shape := ⟨3, ![48, 1024, 512]⟩
abbrev S48x8x128 : Shape := ⟨3, ![48, 8, 128]⟩
abbrev S1x1024x768 : Shape := ⟨3, ![1, 1024, 768]⟩
abbrev S1x1024x512 : Shape := ⟨3, ![1, 1024, 512]⟩
abbrev S1x8x128 : Shape := ⟨3, ![1, 8, 128]⟩
abbrev S3x1152x768 : Shape := ⟨3, ![3, 1152, 768]⟩
abbrev S1x512x768 : Shape := ⟨3, ![1, 512, 768]⟩
abbrev S512x768 : Shape := ⟨2, ![512, 768]⟩
abbrev S64x768 : Shape := ⟨2, ![64, 768]⟩
abbrev S1x64x768 : Shape := ⟨3, ![1, 64, 768]⟩
abbrev S1024x768 : Shape := ⟨2, ![1024, 768]⟩
abbrev S1 : Shape := ⟨1, ![1]⟩
abbrev S1x1 : Shape := ⟨2, ![1, 1]⟩
abbrev S8x128 : Shape := ⟨2, ![8, 128]⟩
abbrev S1024x1 : Shape := ⟨2, ![1024, 1]⟩
abbrev S1023x768 : Shape := ⟨2, ![1023, 768]⟩
abbrev S1024x512 : Shape := ⟨2, ![1024, 512]⟩

abbrev nBuf : Space → Nat
  | .hbm => 9
  | .vmem => 12
  | .smem => 0
  | _ => 0

abbrev bufTy : (tb : Table) → Fin (tcTables nBuf tb) → BufTy
  | .hbm, ⟨0, _⟩ => ⟨S48x16x64x768, .bf16⟩
  | .hbm, ⟨1, _⟩ => ⟨S3x3x512x768, .fp8e4m3⟩
  | .hbm, ⟨2, _⟩ => ⟨S768, .f32⟩
  | .hbm, ⟨3, _⟩ => ⟨S48x1024x768, .bf16⟩
  | .hbm, ⟨4, _⟩ => ⟨S9x512x768, .fp8e4m3⟩
  | .hbm, ⟨5, _⟩ => ⟨S1x768, .f32⟩
  | .hbm, ⟨6, _⟩ => ⟨S48x1024x512, .bf16⟩
  | .hbm, ⟨7, _⟩ => ⟨S48x1024x768, .fp8e5m2⟩
  | .hbm, ⟨8, _⟩ => ⟨S48x8x128, .f32⟩
  | .local _ .vmem, ⟨0, _⟩ => ⟨S1x1024x768, .bf16⟩
  | .local _ .vmem, ⟨1, _⟩ => ⟨S1x1024x768, .bf16⟩
  | .local _ .vmem, ⟨2, _⟩ => ⟨S9x512x768, .fp8e4m3⟩
  | .local _ .vmem, ⟨3, _⟩ => ⟨S1x768, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x768, .fp8e5m2⟩
  | .local _ .vmem, ⟨7, _⟩ => ⟨S1x1024x768, .fp8e5m2⟩
  | .local _ .vmem, ⟨8, _⟩ => ⟨S1x8x128, .f32⟩
  | .local _ .vmem, ⟨9, _⟩ => ⟨S1x8x128, .f32⟩
  | .local _ .vmem, ⟨10, _⟩ => ⟨S9x512x768, .bf16⟩
  | .local _ .vmem, ⟨11, _⟩ => ⟨S3x1152x768, .bf16⟩
  | _, _ => ⟨S48x16x64x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x512x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x768 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S48x16x64x768 : Shape := ⟨4, ![48, 16, 64, 768]⟩
abbrev S3x3x512x768 : Shape := ⟨4, ![3, 3, 512, 768]⟩
abbrev S768 : Shape := ⟨1, ![768]⟩
abbrev S1x1x1x768 : Shape := ⟨4, ![1, 1, 1, 768]⟩
abbrev S48x1024x512 : Shape := ⟨3, ![48, 1024, 512]⟩
abbrev S48x1024x768 : Shape := ⟨3, ![48, 1024, 768]⟩
abbrev S48x8x128 : Shape := ⟨3, ![48, 8, 128]⟩
abbrev S48 : Shape := ⟨1, ![48]⟩
abbrev S48x1x1x1 : Shape := ⟨4, ![48, 1, 1, 1]⟩
abbrev S48x1x64x768 : Shape := ⟨4, ![48, 1, 64, 768]⟩
abbrev S48x17x64x768 : Shape := ⟨4, ![48, 17, 64, 768]⟩
abbrev S48x18x64x768 : Shape := ⟨4, ![48, 18, 64, 768]⟩
abbrev S48x18x1x768 : Shape := ⟨4, ![48, 18, 1, 768]⟩
abbrev S48x18x65x768 : Shape := ⟨4, ![48, 18, 65, 768]⟩
abbrev S48x18x66x768 : Shape := ⟨4, ![48, 18, 66, 768]⟩
abbrev S49152x512 : Shape := ⟨2, ![49152, 512]⟩
abbrev S49152x768 : Shape := ⟨2, ![49152, 768]⟩
abbrev S1x1x512x768 : Shape := ⟨4, ![1, 1, 512, 768]⟩
abbrev S512x768 : Shape := ⟨2, ![512, 768]⟩
abbrev S48x16x64x512 : Shape := ⟨4, ![48, 16, 64, 512]⟩
abbrev S48x1x1 : Shape := ⟨3, ![48, 1, 1]⟩

abbrev nBuf : Space → Nat
  | .hbm => 7
  | .vmem => 6
  | .smem => 0
  | _ => 0

abbrev bufTy : (tb : Table) → Fin (tcTables nBuf tb) → BufTy
  | .hbm, ⟨0, _⟩ => ⟨S48x16x64x768, .bf16⟩
  | .hbm, ⟨1, _⟩ => ⟨S3x3x512x768, .fp8e4m3⟩
  | .hbm, ⟨2, _⟩ => ⟨S768, .f32⟩
  | .hbm, ⟨3, _⟩ => ⟨S1x1x1x768, .f32⟩
  | .hbm, ⟨4, _⟩ => ⟨S48x1024x512, .bf16⟩
  | .hbm, ⟨5, _⟩ => ⟨S48x1024x768, .fp8e5m2⟩
  | .hbm, ⟨6, _⟩ => ⟨S48x8x128, .f32⟩
  | .local _ .vmem, ⟨0, _⟩ => ⟨S48x16x64x768, .bf16⟩
  | .local _ .vmem, ⟨1, _⟩ => ⟨S3x3x512x768, .fp8e4m3⟩
  | .local _ .vmem, ⟨2, _⟩ => ⟨S1x1x1x768, .f32⟩
  | .local _ .vmem, ⟨3, _⟩ => ⟨S48x1024x512, .bf16⟩
  | .local _ .vmem, ⟨4, _⟩ => ⟨S48x1024x768, .fp8e5m2⟩
  | .local _ .vmem, ⟨5, _⟩ => ⟨S48x8x128, .f32⟩
  | _, _ => ⟨S48x16x64x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S48x16x64x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x512x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x1024x768 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Exponent.lean ====
/- The power-of-two scale of one image, as a scalar. The reference takes `e = ⌊log q / log 2⌋ + 1` of `q = a · c`
   (`a` the largest magnitude, `c` the constant nearest 1/57344) and forms `2^e` and `2^(-e)`; the kernel finds
   the exponent field of `q` by eight comparisons with powers of two and assembles the two words `(e + 127) << 23`
   and `(127 - e) << 23`. Here: for `a = 0` and for every `a` from `1.75 * 2^-112` up to (below) `2^128` the two agree. -/
module

public import Idealize.ShloMosaic.Lib.Pointwise

@[expose] public section

noncomputable section

namespace Cert.Exponent

open Idealize.ShloMosaic

/-- The reference's exponent of a largest magnitude `a`. -/
def refExp (a : EReal) : EReal :=
  if a = 0 then 0
  else Ideal.liftRound Int.floor (Ideal.div (Ideal.log (a * Ideal.ofBits .f32 0x37924925#32)) (Ideal.log (Ideal.ofBits .f32 0x40000000#32))) + 1

/-- The scale `2^e`. -/
def scl (a : EReal) : EReal := Ideal.exp2 (refExp a)

/-- Its reciprocal `2^(-e)`. -/
def inv (a : EReal) : EReal := Ideal.exp2 (0 - refExp a)

/-- The magnitudes the claim covers: zero, or from `1.75 * 2^-112` up to below `2^128`. -/
def InRange (a : EReal) : Prop := a = 0 ∨ ∃ r : ℝ, a = (r : EReal) ∧ 7 * (2 : ℝ) ^ (-114 : ℤ) ≤ r ∧ r < (2 : ℝ) ^ (128 : ℤ)

/-! ## The kernel's words -/

/-- A word shifted into the exponent field. -/
def up (b : BitVec 32) : BitVec 32 := IntOp.shli .vector b 23#32

/-- One comparison of the search: keep the trial field if its power of two is at most `q`. -/
def step (q : EReal) (f s : BitVec 32) : BitVec 32 :=
  Scalar.select (Ideal.cmp .oge q (Ideal.ofBits .f32 (up (IntOp.addi f s)))) (IntOp.addi f s) f

/-- The exponent field of `q`. -/
def field (q : EReal) : BitVec 32 :=
  step q (step q (step q (step q (step q (step q (step q (step q 0#32 128#32) 64#32) 32#32) 16#32) 8#32) 4#32) 2#32) 1#32

/-- The kernel's exponent `e`. -/
def kexp (q : EReal) : BitVec 32 := Scalar.select (Ideal.cmp .oeq q 0) 0#32 (IntOp.subi (field q) 126#32)

/-! ## Powers of two as words -/

/-- The word with exponent field `t` and nothing else is `2^(t - 127)`. -/
theorem ofBits_up (t : ℕ) (h0 : 1 ≤ t) (h1 : t ≤ 254) :
    Ideal.ofBits .f32 (up (BitVec.ofNat 32 t)) = (((2 : ℝ) ^ ((t : ℤ) - 127) : ℝ) : EReal) := by
  have e1 : (up (BitVec.ofNat 32 t)).extractLsb' 31 1 = 0#1 := by
    interval_cases t <;> decide
  have e2 : ((up (BitVec.ofNat 32 t)).extractLsb' 23 8).toNat = t := by
    interval_cases t <;> decide
  have e3 : ((up (BitVec.ofNat 32 t)).extractLsb' 0 23).toNat = 0 := by
    interval_cases t <;> decide
  simp only [Ideal.ofBits, Ideal.ieee]
  norm_num only [e1, e2, e3]
  rw [if_neg (by omega), if_neg (by omega)]
  have h2 : (2 : ℝ) ^ ((t : ℤ) - 127) = 8388608 * (2 : ℝ) ^ ((t : ℤ) - 127 - 23) := by
    rw [show (t : ℤ) - 127 = 23 + ((t : ℤ) - 127 - 23) by ring, zpow_add₀ (by norm_num)]; norm_num
  have h3 : (if (0#1 == 1#1) = true then (-1 : ℝ) else 1) = 1 := by simp
  rw [h2, h3, one_mul]

/-- The all-ones exponent field is `⊤`. -/
theorem ofBits_up_top : Ideal.ofBits .f32 (up (BitVec.ofNat 32 255)) = ⊤ := by
  have e1 : (up (BitVec.ofNat 32 255)).extractLsb' 31 1 = 0#1 := by decide
  have e2 : ((up (BitVec.ofNat 32 255)).extractLsb' 23 8).toNat = 255 := by decide
  have e3 : ((up (BitVec.ofNat 32 255)).extractLsb' 0 23).toNat = 0 := by decide
  simp only [Ideal.ofBits, Ideal.ieee]
  norm_num only [e1, e2, e3]
  simp

/-! ## The search -/

/-- The trial field's power of two is at most `q` exactly when the field is at most `B`. -/
theorem le_iff (q : ℝ) (B t : ℕ) (hl : (2 : ℝ) ^ ((B : ℤ) - 127) ≤ q) (hu : q < (2 : ℝ) ^ ((B : ℤ) - 126)) (hB : B ≤ 252)
    (h0 : 1 ≤ t) (h1 : t ≤ 255) : Ideal.ofBits .f32 (up (BitVec.ofNat 32 t)) ≤ (q : EReal) ↔ t ≤ B := by
  rcases Nat.lt_or_ge 254 t with h | h
  · obtain rfl : t = 255 := by omega
    rw [ofBits_up_top]
    constructor
    · intro h; exact absurd h (by simp)
    · intro h; omega
  · rw [ofBits_up t h0 h, EReal.coe_le_coe_iff]
    constructor
    · intro hq
      by_contra hc
      have : (2 : ℝ) ^ ((B : ℤ) - 126) ≤ (2 : ℝ) ^ ((t : ℤ) - 127) := zpow_le_zpow_right₀ (by norm_num) (by omega)
      linarith
    · intro hq
      have : (2 : ℝ) ^ ((t : ℤ) - 127) ≤ (2 : ℝ) ^ ((B : ℤ) - 127) := zpow_le_zpow_right₀ (by norm_num) (by omega)
      linarith

/-- What the search knows between two comparisons: the field so far is at most `B` and misses it by less than `s`. -/
def Near (B s : ℕ) (w : BitVec 32) : Prop := ∃ f : ℕ, w = BitVec.ofNat 32 f ∧ f ≤ B ∧ B < f + s ∧ f + s ≤ 256

/-- One comparison halves the gap. -/
theorem near_step (q : ℝ) (B s : ℕ) (hl : (2 : ℝ) ^ ((B : ℤ) - 127) ≤ q) (hu : q < (2 : ℝ) ^ ((B : ℤ) - 126)) (hB : B ≤ 252)
    (hs : 1 ≤ s) (w : BitVec 32) (h : Near B (2 * s) w) : Near B s (step (q : EReal) w (BitVec.ofNat 32 s)) := by
  obtain ⟨f, rfl, h1, h2, h3⟩ := h
  have e : IntOp.addi (BitVec.ofNat 32 f) (BitVec.ofNat 32 s) = BitVec.ofNat 32 (f + s) := by
    simp [IntOp.addi, BitVec.ofNat_add]
  unfold step
  rw [e]
  have hc := le_iff q B (f + s) hl hu hB (by omega) (by omega)
  by_cases ht : f + s ≤ B
  · refine ⟨f + s, ?_, ht, by omega, by omega⟩
    simp [Ideal.cmp, hc.mpr ht, Scalar.select]
  · refine ⟨f, ?_, h1, by omega, by omega⟩
    simp [Ideal.cmp, mt hc.mp ht, Scalar.select]

/-- The search finds `B`. -/
theorem field_eq (q : ℝ) (B : ℕ) (hl : (2 : ℝ) ^ ((B : ℤ) - 127) ≤ q) (hu : q < (2 : ℝ) ^ ((B : ℤ) - 126)) (hB : B ≤ 252) :
    field (q : EReal) = BitVec.ofNat 32 B := by
  have n0 : Near B (2 * 128) 0#32 := ⟨0, rfl, by omega, by omega, by omega⟩
  have n := near_step q B 1 hl hu hB (by omega) _ (near_step q B 2 hl hu hB (by omega) _ (near_step q B 4 hl hu hB (by omega) _
    (near_step q B 8 hl hu hB (by omega) _ (near_step q B 16 hl hu hB (by omega) _ (near_step q B 32 hl hu hB (by omega) _
      (near_step q B 64 hl hu hB (by omega) _ (near_step q B 128 hl hu hB (by omega) _ n0)))))))
  obtain ⟨f, hf, h1, h2, _⟩ := n
  obtain rfl : f = B := by omega
  exact hf

/-! ## The constants -/

/-- The constant nearest 1/57344. -/
theorem c_eq : Ideal.ofBits .f32 0x37924925#32 = ((9586981 * (2 : ℝ) ^ (-39 : ℤ) : ℝ) : EReal) := by
  have e1 : (0x37924925#32).extractLsb' 31 1 = 0#1 := by decide
  have e2 : ((0x37924925#32).extractLsb' 23 8).toNat = 111 := by decide
  have e3 : ((0x37924925#32).extractLsb' 0 23).toNat = 1198373 := by decide
  simp only [Ideal.ofBits, Ideal.ieee]
  norm_num only [e1, e2, e3]
  norm_num

/-- The word of `2.0`. -/
theorem two_eq : Ideal.ofBits .f32 0x40000000#32 = ((2 : ℝ) : EReal) := by
  have e1 : (0x40000000#32).extractLsb' 31 1 = 0#1 := by decide
  have e2 : ((0x40000000#32).extractLsb' 23 8).toNat = 128 := by decide
  have e3 : ((0x40000000#32).extractLsb' 0 23).toNat = 0 := by decide
  simp only [Ideal.ofBits, Ideal.ieee]
  norm_num only [e1, e2, e3]
  norm_num

/-- `⌊log q / log 2⌋ = z` when `2^z ≤ q < 2^(z+1)`. -/
theorem floor_log (q : ℝ) (z : ℤ) (hl : (2 : ℝ) ^ z ≤ q) (hu : q < (2 : ℝ) ^ (z + 1)) : ⌊Real.log q / Real.log 2⌋ = z := by
  have hq : 0 < q := lt_of_lt_of_le (by positivity) hl
  have h2 : 0 < Real.log 2 := Real.log_pos (by norm_num)
  rw [Int.floor_eq_iff]
  constructor
  · rw [le_div_iff₀ h2, ← Real.log_zpow]
    exact Real.log_le_log (by positivity) hl
  · rw [div_lt_iff₀ h2]
    have := Real.log_lt_log hq hu
    rw [Real.log_zpow] at this
    push_cast at this
    exact this

/-- A power of two with a whole exponent, as the reference forms it. -/
theorem exp2_int (z : ℤ) : Ideal.exp2 (((z : ℤ) : ℝ) : EReal) = (((2 : ℝ) ^ z : ℝ) : EReal) := by
  rw [Ideal.exp2_coe]
  exact congrArg _ (Real.rpow_intCast 2 z)

/-! ## The two sides -/

/-- A magnitude in range and not zero: its scaled value lies in a binade `B` the search reaches. -/
theorem binade (r : ℝ) (hl : 7 * (2 : ℝ) ^ (-114 : ℤ) ≤ r) (hu : r < (2 : ℝ) ^ (128 : ℤ)) :
    ∃ B : ℕ, B ≤ 252 ∧ (2 : ℝ) ^ ((B : ℤ) - 127) ≤ r * (9586981 * (2 : ℝ) ^ (-39 : ℤ)) ∧ r * (9586981 * (2 : ℝ) ^ (-39 : ℤ)) < (2 : ℝ) ^ ((B : ℤ) - 126) := by
  set q := r * (9586981 * (2 : ℝ) ^ (-39 : ℤ)) with hq
  have hc : (2 : ℝ) ^ (-127 : ℤ) ≤ 7 * (2 : ℝ) ^ (-114 : ℤ) * (9586981 * (2 : ℝ) ^ (-39 : ℤ)) := by norm_num
  have hc' : 9586981 * (2 : ℝ) ^ (-39 : ℤ) ≤ (2 : ℝ) ^ (-15 : ℤ) := by norm_num
  have hr : 0 < r := lt_of_lt_of_le (by positivity) hl
  have hq0 : 0 < q := by rw [hq]; positivity
  obtain ⟨z, hz, hz'⟩ := exists_mem_Ico_zpow hq0 (y := (2 : ℝ)) (by norm_num)
  have h1 : (2 : ℝ) ^ (-127 : ℤ) ≤ q := by
    rw [hq]
    exact hc.trans (mul_le_mul_of_nonneg_right hl (by positivity))
  have h2 : q < (2 : ℝ) ^ (113 : ℤ) := by
    rw [show (113 : ℤ) = 128 + -15 by norm_num, zpow_add₀ (by norm_num), hq]
    exact lt_of_le_of_lt (mul_le_mul_of_nonneg_left hc' hr.le) (mul_lt_mul_of_pos_right hu (by positivity))
  have g1 : -127 < z + 1 := (zpow_lt_zpow_iff_right₀ (by norm_num : (1 : ℝ) < 2)).mp (lt_of_le_of_lt h1 hz')
  have g2 : z < 113 := (zpow_lt_zpow_iff_right₀ (by norm_num : (1 : ℝ) < 2)).mp (lt_of_le_of_lt hz h2)
  refine ⟨(z + 127).toNat, by omega, ?_, ?_⟩
  · rw [show (((z + 127).toNat : ℕ) : ℤ) - 127 = z by omega]; exact hz
  · rw [show (((z + 127).toNat : ℕ) : ℤ) - 126 = z + 1 by omega]; exact hz'

/-- The reference's exponent of a nonzero magnitude in binade `B`. -/
theorem refExp_eq (r : ℝ) (B : ℕ) (hr : 0 < r) (hl : (2 : ℝ) ^ ((B : ℤ) - 127) ≤ r * (9586981 * (2 : ℝ) ^ (-39 : ℤ)))
    (hu : r * (9586981 * (2 : ℝ) ^ (-39 : ℤ)) < (2 : ℝ) ^ ((B : ℤ) - 126)) : refExp (r : EReal) = ((((B : ℤ) - 126 : ℤ) : ℝ) : EReal) := by
  have h2 : Real.log 2 ≠ 0 := (Real.log_pos (by norm_num)).ne'
  have hq : 0 < r * (9586981 * (2 : ℝ) ^ (-39 : ℤ)) := by positivity
  unfold refExp
  rw [if_neg (by exact_mod_cast hr.ne'), c_eq, two_eq, ← EReal.coe_mul, Ideal.log_coe, Ideal.log_coe, if_neg (not_le.mpr hq), if_neg (by norm_num)]
  rw [Ideal.div, if_neg (by exact_mod_cast h2), ← EReal.coe_inv, ← EReal.coe_mul, ← div_eq_mul_inv]
  show ((⌊_⌋ : ℝ) : EReal) + 1 = _
  rw [floor_log _ ((B : ℤ) - 127) hl (by rw [show ((B : ℤ) - 127 + 1) = (B : ℤ) - 126 by ring]; exact hu)]
  rw [show (1 : EReal) = ((1 : ℝ) : EReal) from rfl, ← EReal.coe_add]
  congr 1
  push_cast
  ring

/-- The kernel's exponent of the same. -/
theorem kexp_eq (q : ℝ) (B : ℕ) (hq : 0 < q) (hl : (2 : ℝ) ^ ((B : ℤ) - 127) ≤ q) (hu : q < (2 : ℝ) ^ ((B : ℤ) - 126)) (hB : B ≤ 252) :
    kexp (q : EReal) = BitVec.ofNat 32 B - 126#32 := by
  unfold kexp
  rw [field_eq q B hl hu hB]
  have : ¬ ((q : EReal) = 0) := by exact_mod_cast hq.ne'
  simp [Ideal.cmp, this, Scalar.select, IntOp.subi]

/-- The kernel's exponent of zero. -/
theorem kexp_zero : kexp 0 = 0#32 := by
  simp [kexp, Ideal.cmp, Scalar.select]

/-- The kernel's word for the scale is the reference's scale. -/
theorem scale_eq (a : EReal) (h : InRange a) :
    Ideal.ofBits .f32 (up (IntOp.addi (kexp (a * Ideal.ofBits .f32 0x37924925#32)) 127#32)) = scl a := by
  rcases h with rfl | ⟨r, rfl, hl, hu⟩
  · rw [zero_mul, kexp_zero, scl, refExp, if_pos rfl]
    have := ofBits_up 127 (by norm_num) (by norm_num)
    rw [show IntOp.addi 0#32 127#32 = BitVec.ofNat 32 127 from rfl, this]
    rw [show (0 : EReal) = ((((0 : ℤ)) : ℝ) : EReal) by simp, exp2_int]
    norm_num
  · have hr : 0 < r := lt_of_lt_of_le (by positivity) hl
    obtain ⟨B, hB, h1, h2⟩ := binade r hl hu
    rw [scl, refExp_eq r B hr h1 h2, exp2_int, c_eq, ← EReal.coe_mul, kexp_eq _ B (by positivity) h1 h2 hB]
    have e : IntOp.addi (BitVec.ofNat 32 B - 126#32) 127#32 = BitVec.ofNat 32 (B + 1) := by
      interval_cases B <;> decide
    rw [e, ofBits_up (B + 1) (by omega) (by omega)]
    congr 2
    push_cast
    ring

/-- The kernel's word for the reciprocal is the reference's reciprocal. -/
theorem inv_eq (a : EReal) (h : InRange a) :
    Ideal.ofBits .f32 (up (IntOp.addi (IntOp.subi 0#32 (kexp (a * Ideal.ofBits .f32 0x37924925#32))) 127#32)) = inv a := by
  rcases h with rfl | ⟨r, rfl, hl, hu⟩
  · rw [zero_mul, kexp_zero, inv, refExp, if_pos rfl]
    have := ofBits_up 127 (by norm_num) (by norm_num)
    rw [show IntOp.addi (IntOp.subi 0#32 0#32) 127#32 = BitVec.ofNat 32 127 from rfl, this]
    rw [sub_zero, show (0 : EReal) = ((((0 : ℤ)) : ℝ) : EReal) by simp, exp2_int]
    norm_num
  · have hr : 0 < r := lt_of_lt_of_le (by positivity) hl
    obtain ⟨B, hB, h1, h2⟩ := binade r hl hu
    rw [inv, refExp_eq r B hr h1 h2, zero_sub, ← EReal.coe_neg, ← Int.cast_neg, exp2_int, c_eq, ← EReal.coe_mul,
      kexp_eq _ B (by positivity) h1 h2 hB]
    have e : IntOp.addi (IntOp.subi 0#32 (BitVec.ofNat 32 B - 126#32)) 127#32 = BitVec.ofNat 32 (253 - B) := by
      interval_cases B <;> decide
    rw [e, ofBits_up (253 - B) (by omega) (by omega)]
    congr 2
    omega

end Cert.Exponent

end
-- ==== Proof.Spec.lean ====
/- The three results of one image, as functions of its 1024 × 768 matrix of gradients (row `64 y + x` is pixel
   `(y, x)`) and of the scaled weights. Both programs are shown to compute these. -/
module

public import proofs.«01_k».proof.Proof.Exponent

@[expose] public section

noncomputable section

namespace Cert.Spec

open Idealize.ShloMosaic

/-- A matrix of one image: pixels by channels. -/
abbrev Img := Fin 1024 → Fin 768 → EReal

/-- The largest magnitude of an image. -/
def amax (X : Img) : EReal := Finset.univ.sup fun p : Fin 1024 × Fin 768 => max (X p.1 p.2) (-(X p.1 p.2))

/-- The image in quantised units, clipped to the largest finite value of the eight-bit type. -/
def code (X : Img) : Img := fun r k =>
  min (Ideal.ofBits .f32 0x47600000#32) (max (Ideal.ofBits .f32 0xC7600000#32) (X r k * Exponent.inv (amax X)))

/-- The pixel of a zero-bordered image which lies `(i - 1, j - 1)` away from pixel `r`. -/
def tap (C : Img) (i j : Fin 3) (r : Fin 1024) (k : Fin 768) : EReal :=
  if h : 1 ≤ r.val / 64 + i.val ∧ r.val / 64 + i.val ≤ 16 ∧ 1 ≤ r.val % 64 + j.val ∧ r.val % 64 + j.val ≤ 64 then
    C ⟨r.val + 64 * i.val + j.val - 65, by omega⟩ k
  else 0

/-- One of the nine products: a shifted image against one tap of the weights. -/
def dot (C : Img) (W : Fin 3 → Fin 3 → Fin 512 → Fin 768 → EReal) (i j : Fin 3) (r : Fin 1024) (c : Fin 512) : EReal :=
  ∑ k : Fin 768, tap C i j r k * W (2 - i) (2 - j) c k

/-- The input gradient: the nine products with the taps reversed, added and scaled. -/
def dx (X : Img) (W : Fin 3 → Fin 3 → Fin 512 → Fin 768 → EReal) (r : Fin 1024) (c : Fin 512) : EReal :=
  (∑ i : Fin 3, ∑ j : Fin 3, dot (code X) W i j r c) * Exponent.scl (amax X)

/-- A running maximum from the bottom is a supremum. -/
theorem fold_max {α : Type} (s : Finset α) (f : α → EReal) : Finset.fold max ⊥ f s = s.sup f := rfl

/-- The largest of a matrix, taken column by column or all at once. -/
theorem sup_sup (f : Fin 1024 → Fin 768 → EReal) :
    (Finset.univ.sup fun k : Fin 768 => Finset.univ.sup fun r : Fin 1024 => f r k) = Finset.univ.sup fun p : Fin 1024 × Fin 768 => f p.1 p.2 := by
  apply le_antisymm
  · exact Finset.sup_le fun k _ => Finset.sup_le fun r _ => Finset.le_sup (f := fun p : Fin 1024 × Fin 768 => f p.1 p.2) (Finset.mem_univ (r, k))
  · refine Finset.sup_le fun p _ => ?_
    exact le_trans (Finset.le_sup (f := fun r : Fin 1024 => f r p.2) (Finset.mem_univ p.1))
      (Finset.le_sup (f := fun k : Fin 768 => Finset.univ.sup fun r : Fin 1024 => f r k) (Finset.mem_univ p.2))

/-- The word of minus infinity, in the two float types. -/
theorem ofBits_ninf_f32 : Ideal.ofBits .f32 0xFF800000#32 = ⊥ := by
  have e1 : (0xFF800000#32).extractLsb' 31 1 = 1#1 := by decide
  have e2 : ((0xFF800000#32).extractLsb' 23 8).toNat = 255 := by decide
  have e3 : ((0xFF800000#32).extractLsb' 0 23).toNat = 0 := by decide
  simp only [Ideal.ofBits, Ideal.ieee]
  norm_num only [e1, e2, e3]
  simp

theorem ofBits_ninf_bf16 : Ideal.ofBits .bf16 0xFF80#16 = ⊥ := by
  have e1 : (0xFF80#16).extractLsb' 15 1 = 1#1 := by decide
  have e2 : ((0xFF80#16).extractLsb' 7 8).toNat = 255 := by decide
  have e3 : ((0xFF80#16).extractLsb' 0 7).toNat = 0 := by decide
  simp only [Ideal.ofBits, Ideal.ieee]
  norm_num only [e1, e2, e3]
  simp

end Cert.Spec

end
-- ==== Proof.Arrays.lean ====
/- The images and the scaled weights of a problem, read off its three arguments. -/
module

public import proofs.«01_k».proof.Proof.Spec
public import Idealize.ShloMosaic.Lib.Pointwise

@[expose] public section

noncomputable section

namespace Cert.Spec

open Idealize.ShloMosaic

/-- Image `n` of the gradients, its pixels in one list. -/
def image (A : (⟨4, ![48, 16, 64, 768]⟩ : Shape).Idx → EReal) (n : Fin 48) : Img := fun r k =>
  A (ix4 n (⟨r.val / 64, by omega⟩ : Fin 16) (⟨r.val % 64, by omega⟩ : Fin 64) k)

/-- The weights with their channel scales multiplied in. -/
def weight (B : (⟨4, ![3, 3, 512, 768]⟩ : Shape).Idx → EReal) (s : (⟨1, ![768]⟩ : Shape).Idx → EReal)
    (a b : Fin 3) (d : Fin 512) (k : Fin 768) : EReal := B (ix4 a b d k) * s (ix1 k)

/-- The largest of an image: over all the indices that a map to the images sends to `n`, or over its pixels and channels. -/
theorem sup_fiber (drop : (⟨4, ![48, 16, 64, 768]⟩ : Shape).Idx → (⟨1, ![48]⟩ : Shape).Idx) (hd : ∀ i, (drop i 0).val = (i 0).val)
    (x : (⟨4, ![48, 16, 64, 768]⟩ : Shape).Idx → EReal) (n : Fin 48) (s : Finset (⟨4, ![48, 16, 64, 768]⟩ : Shape).Idx) (hs : ∀ i, i ∈ s ↔ drop i = ix1 n) :
    s.sup x = Finset.univ.sup fun p : Fin 1024 × Fin 768 => x (ix4 n (⟨p.1.val / 64, by omega⟩ : Fin 16) (⟨p.1.val % 64, by omega⟩ : Fin 64) p.2) := by
  apply le_antisymm
  · refine Finset.sup_le fun i hi => ?_
    obtain ⟨a, y, z, k, rfl⟩ : ∃ (a : Fin 48) (y : Fin 16) (z : Fin 64) (k : Fin 768), i = ix4 a y z k := ⟨i 0, i 1, i 2, i 3, eq_ix4 i⟩
    have e : a = n := by
      have := congrFun ((hs _).1 hi) 0
      exact Fin.ext ((hd _).symm.trans (congrArg Fin.val this))
    subst e
    have e1 : (⟨(64 * y.val + z.val) / 64, by omega⟩ : Fin 16) = y := Fin.ext (by show (64 * y.val + z.val) / 64 = y.val; omega)
    have e2 : (⟨(64 * y.val + z.val) % 64, by omega⟩ : Fin 64) = z := Fin.ext (by show (64 * y.val + z.val) % 64 = z.val; omega)
    have h := Finset.le_sup (f := fun p : Fin 1024 × Fin 768 => x (ix4 a (⟨p.1.val / 64, by omega⟩ : Fin 16) (⟨p.1.val % 64, by omega⟩ : Fin 64) p.2))
      (Finset.mem_univ ((⟨64 * y.val + z.val, by omega⟩ : Fin 1024), k))
    dsimp only at h
    rwa [e1, e2] at h
  · refine Finset.sup_le fun p _ => Finset.le_sup (f := x) ((hs _).2 ?_)
    funext b
    obtain rfl : b = 0 := Subsingleton.elim _ _
    exact Fin.ext (hd _)

end Cert.Spec

end
-- ==== Proof.KernelBuffers.lean ====
/- The two scratch buffers of the kernel: the scaled weights, and the three column-shifted copies of the codes with a
   zero row above and below. What their writes leave, and what a load of either returns. -/
module

public import proofs.«01_k».proof.Proof.Gen.KernelIdeal.Frame
public import Idealize.ShloMosaic.Lib.Pipeline.ValueKit
public import Idealize.ShloMosaic.Lib.Pipeline.ReadBack
public import proofs.«01_k».proof.Proof.Spec

@[expose] public section

noncomputable section

namespace Cert.KernelBuffers

open Idealize.ShloMosaic Cert.KernelIdeal Cert.KernelIdeal.Gen Cert.Exponent Cert.Spec

/-! ## The shifted copies -/

/-- Row `R` of copy `w`: rows 64 to 1087 hold the codes shifted by `1 - w` columns, zero beyond a row's end; the
    other rows are zero. -/
def shift (C : Img) (w R : ℕ) (k : Fin 768) : EReal :=
  if h : 64 ≤ R ∧ R < 1088 ∧ 1 + w ≤ R % 64 + 2 ∧ R % 64 + 2 ≤ 64 + w then C ⟨R - 63 - w, by omega⟩ k else 0

/-- The buffer of the shifted copies. -/
def BUF (C : Img) : Vec Ideal S3x1152x768 .bf16 := fun p => shift C (p 0).val (p 1).val (p 2)

/-- The rows a tap reads are the shifted pixels. -/
theorem shift_tap (C : Img) (w : ℕ) (i j : Fin 3) (hj : w + j.val = 2) (r : Fin 1024) (k : Fin 768) :
    shift C w (64 * i.val + r.val) k = tap C i j r k := by
  have hi := i.isLt
  have hr := r.isLt
  unfold shift tap
  split_ifs with h1 h2 h2
  · congr 1
    apply Fin.ext
    show 64 * i.val + r.val - 63 - w = r.val + 64 * i.val + j.val - 65
    omega
  · exact absurd (by omega) h2
  · exact absurd (by omega) h1
  · rfl

theorem shift_edge (C : Img) (w R : ℕ) (k : Fin 768) (h : R < 64 ∨ 1088 ≤ R) : shift C w R k = 0 := by
  unfold shift
  rw [dif_neg (by omega)]

theorem BUF_of (C : Img) (y : S3x1152x768.Idx) (w R : ℕ) (k : Fin 768) (h0 : (y 0).val = w) (h1 : (y 1).val = R) (h2 : (y 2).val = k.val) :
    BUF C y = shift C w R k := by
  subst h0; subst h1
  have : y 2 = k := Fin.ext h2
  unfold BUF
  rw [this]

/-- A box of the buffer, read at an element. -/
theorem BUF_box (C : Img) (off size : Fin 3 → ℕ) (inb) (x : (Rect.unit (s := S3x1152x768) off size inb).shape.Idx) (k : Fin 768)
    (hk : off 2 + (x 2).val = k.val) :
    BUF C ((Rect.unit (s := S3x1152x768) off size inb).emb x) = shift C (off 0 + (x 0).val) (off 1 + (x 1).val) k := by
  refine BUF_of C _ _ _ k ?_ ?_ ?_
  · exact ValueKit.rect_emb_unit_val (s := S3x1152x768) off size inb x 0
  · exact ValueKit.rect_emb_unit_val (s := S3x1152x768) off size inb x 1
  · exact (ValueKit.rect_emb_unit_val (s := S3x1152x768) off size inb x 2).trans hk

/-- What a load of 1024 rows from row `64 i` of copy `w` returns. -/
theorem BUF_load (C : Img) (w o : ℕ) (i j : Fin 3) (hj : w + j.val = 2) (ho : o = 64 * i.val) (inb) (r : Fin 1024) (k : Fin 768) :
    BUF C ((Rect.unit (s := S3x1152x768) ![w, o, 0] ![1, 1024, 768] inb).emb (ix3 0 r k)) = tap C i j r k := by
  rw [BUF_box C ![w, o, 0] ![1, 1024, 768] inb (ix3 0 r k) k (Nat.zero_add _), ← shift_tap C w i j hj r k, ← ho]
  rfl

/-- A write of 1024 rows from row 64. -/
theorem mid (C : Img) (w : ℕ) (j : Fin 3) (hj : w + j.val = 2) (v : Vec Ideal S1x1024x768 .bf16) (hv : ∀ r k, v (ix3 0 r k) = tap C 1 j r k) (inb)
    (x : (Rect.unit (s := S3x1152x768) ![w, 64, 0] ![1, 1024, 768] inb).shape.Idx) :
    v x = BUF C ((Rect.unit (s := S3x1152x768) ![w, 64, 0] ![1, 1024, 768] inb).emb x) := by
  obtain ⟨a, r, k, rfl⟩ : ∃ (a : Fin 1) (r : Fin 1024) (k : Fin 768), x = ix3 a r k := ⟨x 0, x 1, x 2, eq_ix3 x⟩
  obtain rfl : a = 0 := Subsingleton.elim _ _
  rw [BUF_load C w 64 1 j hj rfl inb r k]
  exact hv r k

/-- A write of 64 zero rows at either end. -/
theorem edge (C : Img) (w o : ℕ) (ho : o = 0 ∨ o = 1088) (v : Vec Ideal S1x64x768 .bf16) (hv : ∀ r k, v (ix3 0 r k) = 0) (inb)
    (x : (Rect.unit (s := S3x1152x768) ![w, o, 0] ![1, 64, 768] inb).shape.Idx) :
    v x = BUF C ((Rect.unit (s := S3x1152x768) ![w, o, 0] ![1, 64, 768] inb).emb x) := by
  obtain ⟨a, r, k, rfl⟩ : ∃ (a : Fin 1) (r : Fin 64) (k : Fin 768), x = ix3 a r k := ⟨x 0, x 1, x 2, eq_ix3 x⟩
  obtain rfl : a = 0 := Subsingleton.elim _ _
  rw [BUF_box C ![w, o, 0] ![1, 64, 768] inb (ix3 0 r k) k (Nat.zero_add _)]
  rw [shift_edge]
  · exact hv r k
  · show o + r.val < 64 ∨ 1088 ≤ o + r.val
    have := r.isLt
    omega

/-- Which elements a box of rows holds. -/
theorem mem_rows (w o n : ℕ) (inb) (y : S3x1152x768.Idx) (h0 : (y 0).val = w) (h1 : o ≤ (y 1).val) (h2 : (y 1).val < o + n) :
    y ∈ (Rect.unit (s := S3x1152x768) ![w, o, 0] ![1, n, 768] inb).set := by
  rw [Rect.mem_set_unit]
  intro a
  fin_cases a
  · show w ≤ (y 0).val ∧ (y 0).val < w + 1
    omega
  · exact ⟨h1, h2⟩
  · have : (y 2).val < 768 := (y 2).isLt
    show 0 ≤ (y 2).val ∧ (y 2).val < 0 + 768
    omega

theorem not_mem_rows (w : ℕ) (inb) (y : S3x1152x768.Idx) (h : (y 1).val < 64 ∨ 1088 ≤ (y 1).val) :
    y ∉ (Rect.unit (s := S3x1152x768) ![w, 64, 0] ![1, 1024, 768] inb).set := by
  rw [Rect.mem_set_unit]
  intro hm
  have : 64 ≤ (y 1).val ∧ (y 1).val < 64 + 1024 := hm 1
  omega

section

variable (C : Img) (v2 v1 v0 : Vec Ideal S1x1024x768 .bf16) (h2 : ∀ r k, v2 (ix3 0 r k) = tap C 1 0 r k)
  (h1 : ∀ r k, v1 (ix3 0 r k) = tap C 1 1 r k) (h0 : ∀ r k, v0 (ix3 0 r k) = tap C 1 2 r k)

/-- The three writes of shifted codes. -/
abbrev mids : List (View.Piece (Elt Ideal) S3x1152x768 .bf16) :=
  [⟨Rect.unit ![2, 64, 0] ![1, 1024, 768] inb_S3x1152x768_S1x1024x768_2_64_0, v2⟩,
    ⟨Rect.unit ![1, 64, 0] ![1, 1024, 768] inb_S3x1152x768_S1x1024x768_1_64_0, v1⟩,
    ⟨Rect.unit ![0, 64, 0] ![1, 1024, 768] inb_S3x1152x768_S1x1024x768_0_64_0, v0⟩]

include h2 h1 h0 in
theorem mids_pieces : ∀ p ∈ mids v2 v1 v0, ∀ x : p.1.shape.Idx, p.2 x = BUF C (p.1.emb x) := by
  intro p hp
  rcases List.mem_cons.mp hp with rfl | hp
  · exact mid C 2 0 rfl v2 h2 inb_S3x1152x768_S1x1024x768_2_64_0
  rcases List.mem_cons.mp hp with rfl | hp
  · exact mid C 1 1 rfl v1 h1 inb_S3x1152x768_S1x1024x768_1_64_0
  rcases List.mem_cons.mp hp with rfl | hp
  · exact mid C 0 2 rfl v0 h0 inb_S3x1152x768_S1x1024x768_0_64_0
  · exact absurd hp List.not_mem_nil

theorem mids_cover (y : S3x1152x768.Idx) (hl : 64 ≤ (y 1).val) (hu : (y 1).val < 1088) : ∃ p ∈ mids v2 v1 v0, y ∈ p.1.set := by
  have h3 : (y 0).val < 3 := (y 0).isLt
  rcases (by omega : (y 0).val = 2 ∨ (y 0).val = 1 ∨ (y 0).val = 0) with h | h | h
  · exact ⟨_, List.mem_cons_self, mem_rows 2 64 1024 inb_S3x1152x768_S1x1024x768_2_64_0 y h hl (by omega)⟩
  · exact ⟨_, List.mem_cons_of_mem _ List.mem_cons_self, mem_rows 1 64 1024 inb_S3x1152x768_S1x1024x768_1_64_0 y h hl (by omega)⟩
  · exact ⟨_, List.mem_cons_of_mem _ (List.mem_cons_of_mem _ List.mem_cons_self), mem_rows 0 64 1024 inb_S3x1152x768_S1x1024x768_0_64_0 y h hl (by omega)⟩

include h2 h1 h0 in
/-- The three writes over a buffer whose end rows are zero. -/
theorem writes_mids (arg8 : Memref sig .tc .vmem S3x1152x768 .bf16) (harg8 : arg8.IsWhole) (xs : Vec Ideal S3x1152x768 .bf16)
    (hxs : ∀ y : S3x1152x768.Idx, ((y 1).val < 64 ∨ 1088 ≤ (y 1).val) → xs y = 0) :
    View.read (Elt Ideal) arg8.view (arg8.view.writes (Elt Ideal) (harg8.unread xs) (mids v2 v1 v0)) = BUF C := by
  funext y
  by_cases hy : 64 ≤ (y 1).val ∧ (y 1).val < 1088
  · exact View.read_writes_apply_of_pieces _ _ (BUF C) _ (mids_pieces C v2 v1 v0 h2 h1 h0) y (mids_cover v2 v1 v0 y hy.1 hy.2)
  · have hy' : (y 1).val < 64 ∨ 1088 ≤ (y 1).val := by omega
    refine (View.read_writes_apply_of_forall_not_mem _ _ y _ ?_).trans ?_
    rotate_left
    · rw [harg8.read_unread, hxs y hy']
      exact (shift_edge C _ _ (y 2) hy').symm
    intro p hp
    rcases List.mem_cons.mp hp with rfl | hp
    · exact not_mem_rows 2 inb_S3x1152x768_S1x1024x768_2_64_0 y hy'
    rcases List.mem_cons.mp hp with rfl | hp
    · exact not_mem_rows 1 inb_S3x1152x768_S1x1024x768_1_64_0 y hy'
    rcases List.mem_cons.mp hp with rfl | hp
    · exact not_mem_rows 0 inb_S3x1152x768_S1x1024x768_0_64_0 y hy'
    · exact absurd hp List.not_mem_nil

include h2 h1 h0 in
theorem canon_mids (y : S3x1152x768.Idx) (hl : 64 ≤ (y 1).val) (hu : (y 1).val < 1088) : View.canon (mids v2 v1 v0) y = BUF C y :=
  View.canon_apply_of_pieces (BUF C) _ (mids_pieces C v2 v1 v0 h2 h1 h0) y (mids_cover v2 v1 v0 y hl hu)

variable (e1 e2 e3 e4 e5 e6 : Vec Ideal S1x64x768 .bf16) (k1 : ∀ r k, e1 (ix3 0 r k) = 0) (k2 : ∀ r k, e2 (ix3 0 r k) = 0)
  (k3 : ∀ r k, e3 (ix3 0 r k) = 0) (k4 : ∀ r k, e4 (ix3 0 r k) = 0) (k5 : ∀ r k, e5 (ix3 0 r k) = 0) (k6 : ∀ r k, e6 (ix3 0 r k) = 0)

/-- The six writes of zero rows. -/
abbrev edges : List (View.Piece (Elt Ideal) S3x1152x768 .bf16) :=
  [⟨Rect.unit ![2, 1088, 0] ![1, 64, 768] inb_S3x1152x768_S1x64x768_2_1088_0, e1⟩,
    ⟨Rect.unit ![2, 0, 0] ![1, 64, 768] inb_S3x1152x768_S1x64x768_2_0_0, e2⟩,
    ⟨Rect.unit ![1, 1088, 0] ![1, 64, 768] inb_S3x1152x768_S1x64x768_1_1088_0, e3⟩,
    ⟨Rect.unit ![1, 0, 0] ![1, 64, 768] inb_S3x1152x768_S1x64x768_1_0_0, e4⟩,
    ⟨Rect.unit ![0, 1088, 0] ![1, 64, 768] inb_S3x1152x768_S1x64x768_0_1088_0, e5⟩,
    ⟨Rect.unit ![0, 0, 0] ![1, 64, 768] inb_S3x1152x768_S1x64x768_0_0_0, e6⟩]

include k1 k2 k3 k4 k5 k6 in
theorem edges_pieces : ∀ p ∈ edges e1 e2 e3 e4 e5 e6, ∀ x : p.1.shape.Idx, p.2 x = BUF C (p.1.emb x) := by
  intro p hp
  rcases List.mem_cons.mp hp with rfl | hp
  · exact edge C 2 1088 (.inr rfl) e1 k1 inb_S3x1152x768_S1x64x768_2_1088_0
  rcases List.mem_cons.mp hp with rfl | hp
  · exact edge C 2 0 (.inl rfl) e2 k2 inb_S3x1152x768_S1x64x768_2_0_0
  rcases List.mem_cons.mp hp with rfl | hp
  · exact edge C 1 1088 (.inr rfl) e3 k3 inb_S3x1152x768_S1x64x768_1_1088_0
  rcases List.mem_cons.mp hp with rfl | hp
  · exact edge C 1 0 (.inl rfl) e4 k4 inb_S3x1152x768_S1x64x768_1_0_0
  rcases List.mem_cons.mp hp with rfl | hp
  · exact edge C 0 1088 (.inr rfl) e5 k5 inb_S3x1152x768_S1x64x768_0_1088_0
  rcases List.mem_cons.mp hp with rfl | hp
  · exact edge C 0 0 (.inl rfl) e6 k6 inb_S3x1152x768_S1x64x768_0_0_0
  · exact absurd hp List.not_mem_nil

theorem edges_cover (y : S3x1152x768.Idx) (h : (y 1).val < 64 ∨ 1088 ≤ (y 1).val) : ∃ p ∈ edges e1 e2 e3 e4 e5 e6, y ∈ p.1.set := by
  have h3 : (y 0).val < 3 := (y 0).isLt
  have h4 : (y 1).val < 1152 := (y 1).isLt
  rcases (by omega : (y 0).val = 2 ∨ (y 0).val = 1 ∨ (y 0).val = 0) with h0 | h0 | h0 <;> rcases h with h | h
  · exact ⟨_, .tail _ (.head _), mem_rows 2 0 64 inb_S3x1152x768_S1x64x768_2_0_0 y h0 (by omega) (by omega)⟩
  · exact ⟨_, .head _, mem_rows 2 1088 64 inb_S3x1152x768_S1x64x768_2_1088_0 y h0 (by omega) (by omega)⟩
  · exact ⟨_, .tail _ (.tail _ (.tail _ (.head _))), mem_rows 1 0 64 inb_S3x1152x768_S1x64x768_1_0_0 y h0 (by omega) (by omega)⟩
  · exact ⟨_, .tail _ (.tail _ (.head _)), mem_rows 1 1088 64 inb_S3x1152x768_S1x64x768_1_1088_0 y h0 (by omega) (by omega)⟩
  · exact ⟨_, .tail _ (.tail _ (.tail _ (.tail _ (.tail _ (.head _))))), mem_rows 0 0 64 inb_S3x1152x768_S1x64x768_0_0_0 y h0 (by omega) (by omega)⟩
  · exact ⟨_, .tail _ (.tail _ (.tail _ (.tail _ (.head _)))), mem_rows 0 1088 64 inb_S3x1152x768_S1x64x768_0_1088_0 y h0 (by omega) (by omega)⟩

include h2 h1 h0 k1 k2 k3 k4 k5 k6 in
/-- All nine writes. -/
theorem canon_all : View.canon (mids v2 v1 v0 ++ edges e1 e2 e3 e4 e5 e6) = BUF C := by
  funext y
  refine View.canon_apply_of_pieces (BUF C) _ ?_ y ?_
  · intro p hp
    rcases List.mem_append.mp hp with hp | hp
    · exact mids_pieces C v2 v1 v0 h2 h1 h0 p hp
    · exact edges_pieces C e1 e2 e3 e4 e5 e6 k1 k2 k3 k4 k5 k6 p hp
  · by_cases hy : 64 ≤ (y 1).val ∧ (y 1).val < 1088
    · obtain ⟨p, hp, hm⟩ := mids_cover v2 v1 v0 y hy.1 hy.2
      exact ⟨p, List.mem_append_left _ hp, hm⟩
    · obtain ⟨p, hp, hm⟩ := edges_cover e1 e2 e3 e4 e5 e6 y (by omega)
      exact ⟨p, List.mem_append_right _ hp, hm⟩

end

/-! ## The weights -/

/-- The buffer of the scaled weights. -/
def WD (x1 : Vec Ideal S9x512x768 .fp8e4m3) (x2 : Vec Ideal S1x768 .f32) : Vec Ideal S9x512x768 .bf16 :=
  fun p => x1 p * x2 (ix2 0 (p 2))

/-- The scaled weight of tap `(a, b)`. -/
def wt (x1 : Vec Ideal S9x512x768 .fp8e4m3) (x2 : Vec Ideal S1x768 .f32) (a b : Fin 3) (c : Fin 512) (k : Fin 768) : EReal :=
  x1 (ix3 ⟨3 * a.val + b.val, by omega⟩ c k) * x2 (ix2 0 k)

theorem tap_idx (t : ℕ) (ht : t < 9) (inb) (c : Fin 512) (k : Fin 768) :
    (Rect.unit (s := S9x512x768) ![t, 0, 0] ![1, 512, 768] inb).emb (ix3 0 c k) = ix3 ⟨t, ht⟩ c k := by
  funext a
  apply Fin.ext
  rw [ValueKit.rect_emb_unit_val]
  fin_cases a
  · rfl
  · exact Nat.zero_add _
  · exact Nat.zero_add _

/-- What a load of one tap of the scaled weights returns. -/
theorem WD_load (x1 : Vec Ideal S9x512x768 .fp8e4m3) (x2 : Vec Ideal S1x768 .f32) (t : ℕ) (a b : Fin 3) (h : t = 3 * a.val + b.val) (inb)
    (c : Fin 512) (k : Fin 768) :
    WD x1 x2 ((Rect.unit (s := S9x512x768) ![t, 0, 0] ![1, 512, 768] inb).emb (ix3 0 c k)) = wt x1 x2 a b c k := by
  subst h
  rw [tap_idx _ (by omega)]
  rfl

/-- A write of one tap. -/
theorem tapw (x1 : Vec Ideal S9x512x768 .fp8e4m3) (x2 : Vec Ideal S1x768 .f32) (t : ℕ) (ht : t < 9) (inb) (v : Vec Ideal S1x512x768 .bf16)
    (hv : ∀ c k, v (ix3 0 c k) = View.ld x1 (Rect.unit (s := S9x512x768) ![t, 0, 0] ![1, 512, 768] inb) (ix3 0 c k) * x2 (ix2 0 k))
    (x : (Rect.unit (s := S9x512x768) ![t, 0, 0] ![1, 512, 768] inb).shape.Idx) :
    v x = WD x1 x2 ((Rect.unit (s := S9x512x768) ![t, 0, 0] ![1, 512, 768] inb).emb x) := by
  obtain ⟨a, c, k, rfl⟩ : ∃ (a : Fin 1) (c : Fin 512) (k : Fin 768), x = ix3 a c k := ⟨x 0, x 1, x 2, eq_ix3 x⟩
  obtain rfl : a = 0 := Subsingleton.elim _ _
  refine (hv c k).trans ?_
  rw [tap_idx t ht]
  show x1 ((Rect.unit (s := S9x512x768) ![t, 0, 0] ![1, 512, 768] inb).emb (ix3 0 c k)) * _ = _
  rw [tap_idx t ht]
  rfl

/-- Which elements one tap holds. -/
theorem mem_tap (t : ℕ) (inb) (y : S9x512x768.Idx) (h0 : (y 0).val = t) :
    y ∈ (Rect.unit (s := S9x512x768) ![t, 0, 0] ![1, 512, 768] inb).set := by
  rw [Rect.mem_set_unit]
  intro a
  fin_cases a
  · show t ≤ (y 0).val ∧ (y 0).val < t + 1
    omega
  · have : (y 1).val < 512 := (y 1).isLt
    show 0 ≤ (y 1).val ∧ (y 1).val < 0 + 512
    omega
  · have : (y 2).val < 768 := (y 2).isLt
    show 0 ≤ (y 2).val ∧ (y 2).val < 0 + 768
    omega

end Cert.KernelBuffers

end
-- ==== Proof.KernelExp.lean ====
/- The kernel's exponent of one image is the scalar search of `Exponent`. -/
module

public import proofs.«01_k».proof.Proof.Gen.KernelIdeal.Skeleton
public import proofs.«01_k».proof.Proof.Exponent

@[expose] public section

noncomputable section

namespace Cert.KernelExp

open Idealize.ShloMosaic Cert.KernelIdeal Cert.KernelIdeal.Gen Cert.Exponent

/-- One comparison of the search, on the whole block. -/
def vstep (q : FVec Ideal S8x128 .f32) (f : IVec S8x128 32) (s : BitVec 32) : IVec S8x128 32 :=
  select (cmpf .oge q (bitcastToFloat .f32 (shli (addi f (broadcast S8x128 s)) (broadcast S8x128 23#32)))) (addi f (broadcast S8x128 s)) f

theorem vstep_apply (q : FVec Ideal S8x128 .f32) (f : IVec S8x128 32) (s : BitVec 32) (a : Fin 8) (b : Fin 128) :
    vstep q f s (ix2 a b) = step (q (ix2 a b)) (f (ix2 a b)) s := rfl

/-- The first three comparisons. -/
theorem pay23 (x0 : Vec Ideal S1x1024x768 .bf16) :
    k0_pay23 x0 = vstep (k0_pay22 x0) (vstep (k0_pay22 x0) (vstep (k0_pay22 x0) (broadcast S8x128 0#32) 128#32) 64#32) 32#32 := by
  unfold k0_pay23
  generalize k0_pay22 x0 = q
  dsimp only [vstep]

/-- The other five and the exponent. -/
theorem pay26' (q : FVec Ideal S8x128 .f32) (f : IVec S8x128 32) :
    k0_pay26 q f (addi f (broadcast S8x128 16#32)) (shli (addi f (broadcast S8x128 16#32)) (broadcast S8x128 23#32)) =
      select (cmpf .oeq q (broadcast S8x128 (Scalar.ofBits (F := Ideal) .f32 0x00000000#32))) (broadcast S8x128 0#32)
        (subi (vstep q (vstep q (vstep q (vstep q (vstep q f 16#32) 8#32) 4#32) 2#32) 1#32) (broadcast S8x128 126#32)) := by
  unfold k0_pay26
  dsimp only [vstep]

/-- A last choice between zero and the biased field, at one element. -/
theorem last_apply (q : FVec Ideal S8x128 .f32) (f : IVec S8x128 32) (a : Fin 8) (b : Fin 128) :
    select (cmpf .oeq q (broadcast S8x128 (Scalar.ofBits (F := Ideal) .f32 0x00000000#32))) (broadcast S8x128 0#32)
        (subi f (broadcast S8x128 126#32)) (ix2 a b) =
      Scalar.select (Ideal.cmp .oeq (q (ix2 a b)) (Ideal.ofBits .f32 0x00000000#32)) 0#32 (IntOp.subi (f (ix2 a b)) 126#32) := rfl

/-- The kernel's exponent at every element is the scalar one. -/
theorem pay26 (x0 : Vec Ideal S1x1024x768 .bf16) (a : Fin 8) (b : Fin 128) :
    k0_pay26 (k0_pay22 x0) (k0_pay23 x0) (k0_pay24 x0) (k0_pay25 x0) (ix2 a b) = kexp (k0_pay22 x0 (ix2 a b)) := by
  unfold k0_pay25 k0_pay24
  rw [pay23]
  refine (congrFun (pay26' _ _) _).trans ?_
  have z : broadcast S8x128 0#32 (ix2 a b) = 0#32 := rfl
  rw [last_apply, vstep_apply, vstep_apply, vstep_apply, vstep_apply, vstep_apply, vstep_apply, vstep_apply, vstep_apply, z,
    Ideal.ofBits_zero_f32, kexp, field]

end Cert.KernelExp

end
-- ==== Proof.KernelScale.lean ====
/- The kernel's scale of one image and its reciprocal, read element by element. -/
module

public import proofs.«01_k».proof.Proof.Gen.KernelIdeal.Skeleton
public import proofs.«01_k».proof.Proof.Spec
public import proofs.«01_k».proof.Proof.KernelExp

@[expose] public section

noncomputable section

namespace Cert.KernelScale

open Idealize.ShloMosaic Cert.KernelIdeal Cert.KernelIdeal.Gen Cert.Exponent Cert.Spec Cert.KernelExp

/-- The image in a block of gradients. -/
def img (x0 : Vec Ideal S1x1024x768 .bf16) : Img := fun r k => x0 (ix3 0 r k)

/-! ## Scale -/

/-- The largest of each column. -/
theorem redRows (src : FVec Ideal S1024x768 .bf16) (k : Fin 768) :
    multiReduction .maximumf [0] S768 src 0xFF80#16 reduces_S1024x768_S768 (.inr rfl) rfl (ix1 k) = Finset.univ.sup fun r : Fin 1024 => src (ix2 r k) := by
  pointwise
  rw [ofBits_ninf_bf16, fold_max]

/-- The largest of a row. -/
theorem redLanes (src : FVec Ideal S1x768 .f32) :
    multiReduction .maximumf [1] S1 src 0xFF800000#32 reduces_S1x768_S1 (.inl rfl) rfl (ix1 0) = Finset.univ.sup fun k : Fin 768 => src (ix2 0 k) := by
  pointwise
  rw [ofBits_ninf_f32, fold_max]

/-- One value spread over the block and multiplied by the constant. -/
theorem spread (f : FVec Ideal S1 .f32) (a : Fin 8) (b : Fin 128) :
    mulf (broadcastTo S8x128 (shapeCast S1x1 (shapeCast S1x1 f shapeCasts_S1_S1x1) shapeCasts_S1x1_S1x1) broadcasts_S1x1_S8x128)
      (broadcast S8x128 (Scalar.ofBits (F := Ideal) .f32 0x37924925#32)) (ix2 a b) = f (ix1 0) * Ideal.ofBits .f32 0x37924925#32 := by
  pointwise

/-- A row of values as a one-row matrix, widened. -/
theorem asRow (v6 : FVec Ideal S768 .bf16) (k : Fin 768) :
    (extf .f32 (shapeCast S1x768 v6 shapeCasts_S768_S1x768) bitsLt_bf16_f32 : FVec Ideal S1x768 .f32) (ix2 0 k) = v6 (ix1 k) := by
  pointwise

theorem abs_apply (x0 : Vec Ideal S1x1024x768 .bf16) (r : Fin 1024) (k : Fin 768) :
    absf (k0_pay21 x0) (ix2 r k) = max (img x0 r k) (-(img x0 r k)) := by
  unfold k0_pay21
  pointwise
  rfl

/-- The value searched: the largest magnitude times the constant. -/
theorem pay22 (x0 : Vec Ideal S1x1024x768 .bf16) (a : Fin 8) (b : Fin 128) :
    k0_pay22 x0 (ix2 a b) = amax (img x0) * Ideal.ofBits .f32 0x37924925#32 := by
  unfold k0_pay22
  refine (spread _ a b).trans ?_
  rw [redLanes, amax, ← sup_sup fun r k => max (img x0 r k) (-(img x0 r k))]
  have e : ∀ k : Fin 768, _ = Finset.univ.sup fun r : Fin 1024 => max (img x0 r k) (-(img x0 r k)) := fun k =>
    (asRow _ k).trans ((redRows (absf (k0_pay21 x0)) k).trans (Finset.sup_congr rfl fun r _ => abs_apply x0 r k))
  rw [Finset.sup_congr rfl fun k _ => e k]

theorem pay27 (x0 : Vec Ideal S1x1024x768 .bf16) (h : InRange (amax (img x0))) :
    k0_pay27 (k0_pay22 x0) (k0_pay23 x0) (k0_pay24 x0) (k0_pay25 x0) (ix2 0 0) = Exponent.inv (amax (img x0)) := by
  have e := pay26 x0 0 0
  rw [pay22] at e
  rw [← inv_eq _ h, ← e]
  unfold k0_pay27
  generalize k0_pay26 (k0_pay22 x0) (k0_pay23 x0) (k0_pay24 x0) (k0_pay25 x0) = E
  pointwise
  rfl

theorem pay28 (x0 : Vec Ideal S1x1024x768 .bf16) (h : InRange (amax (img x0))) (a : Fin 8) (b : Fin 128) :
    k0_pay28 (F := Ideal) (k0_pay26 (k0_pay22 x0) (k0_pay23 x0) (k0_pay24 x0) (k0_pay25 x0)) 127#32 (ix2 a b) = scl (amax (img x0)) := by
  have e := pay26 x0 a b
  rw [pay22] at e
  rw [← scale_eq _ h, ← e]
  unfold k0_pay28
  generalize k0_pay26 (k0_pay22 x0) (k0_pay23 x0) (k0_pay24 x0) (k0_pay25 x0) = E
  rfl

theorem pay29 (x0 : Vec Ideal S1x1024x768 .bf16) (h : InRange (amax (img x0))) (a : Fin 8) (b : Fin 128) :
    k0_pay29 (F := Ideal) (k0_pay26 (k0_pay22 x0) (k0_pay23 x0) (k0_pay24 x0) (k0_pay25 x0)) 127#32 (ix3 0 a b) = scl (amax (img x0)) := by
  rw [← pay28 x0 h a b]
  unfold k0_pay29
  generalize k0_pay26 (k0_pay22 x0) (k0_pay23 x0) (k0_pay24 x0) (k0_pay25 x0) = E
  generalize k0_pay28 (F := Ideal) E 127#32 = D
  pointwise

end Cert.KernelScale

end
-- ==== Proof.KernelImage.lean ====
/- The kernel's values for one image, read element by element: scale, codes, the three shifted copies of the codes
   with their zero columns, and the nine products. -/
module

public import proofs.«01_k».proof.Proof.Gen.KernelIdeal.Skeleton
public import proofs.«01_k».proof.Proof.Spec
public import proofs.«01_k».proof.Proof.KernelScale

@[expose] public section

noncomputable section

namespace Cert.KernelImage

open Idealize.ShloMosaic Cert.KernelIdeal Cert.KernelIdeal.Gen Cert.Exponent Cert.Spec Cert.KernelScale

/-! ## Codes -/

variable (x0 : Vec Ideal S1x1024x768 .bf16) (v : FVec Ideal S1x1 .f32)

theorem pay31 (hv : v (ix2 0 0) = Exponent.inv (amax (img x0))) (r : Fin 1024) (k : Fin 768) :
    k0_pay31 (k0_pay21 x0) v (ix3 0 r k) = code (img x0) r k := by
  unfold k0_pay31 k0_pay30 k0_pay21
  pointwise [hv]
  rfl

theorem pay32 (hv : v (ix2 0 0) = Exponent.inv (amax (img x0))) (r : Fin 1024) (k : Fin 768) :
    k0_pay32 (k0_pay21 x0) v (ix2 r k) = code (img x0) r k := by
  unfold k0_pay32 k0_pay30 k0_pay21
  pointwise [hv]
  rfl

/-! ## The shifted copies -/

/-- The column of a row: the remainder by 64. -/
theorem pay33 (r : Fin 1024) : k0_pay33 (ix2 r 0) = BitVec.ofNat 32 (r.val % 64) := by
  unfold k0_pay33
  pointwise
  revert r
  decide +kernel

/-- A comparison of two small words is the comparison of the numbers. -/
theorem eq_word (a b : ℕ) (ha : a < 64) (hb : b < 64) (x y : EReal) :
    Scalar.select (IntOp.cmpi .eq (BitVec.ofNat 32 a) (BitVec.ofNat 32 b)) x y = if a = b then x else y := by
  have e : BitVec.ofNat 32 a = BitVec.ofNat 32 b ↔ a = b := by
    constructor
    · intro h
      have := congrArg BitVec.toNat h
      simp only [BitVec.toNat_ofNat] at this
      omega
    · rintro rfl; rfl
  by_cases h : a = b
  · simp [IntOp.cmpi, Scalar.select, h]
  · have h' := mt e.mp h
    simp only [IntOp.cmpi, Scalar.select, beq_eq_false_iff_ne.mpr h', if_neg h]
    simp

theorem pay38 (hv : v (ix2 0 0) = Exponent.inv (amax (img x0))) (r : Fin 1024) (k : Fin 768) :
    k0_pay38 (k0_pay32 (k0_pay21 x0) v) k0_pay33 (ix3 0 r k) = tap (code (img x0)) 1 0 r k := by
  unfold k0_pay38
  pointwise [pay33, pay32 x0 v hv]
  rw [show (0#32 : BitVec 32) = BitVec.ofNat 32 0 from rfl, eq_word _ _ (by omega) (by omega)]
  unfold tap
  have := r.isLt
  by_cases h : r.val % 64 = 0
  · rw [if_pos h, dif_neg (by simp; omega)]
  · rw [if_neg h, dif_neg (by omega), dif_pos (by simp; omega)]
    congr 1

theorem pay37 (hv : v (ix2 0 0) = Exponent.inv (amax (img x0))) (r : Fin 1024) (k : Fin 768) :
    k0_pay37 (k0_pay32 (k0_pay21 x0) v) (ix3 0 r k) = tap (code (img x0)) 1 1 r k := by
  unfold k0_pay37
  pointwise [pay32 x0 v hv]
  unfold tap
  have := r.isLt
  rw [dif_pos (by simp; omega)]
  congr 1

theorem pay36 (hv : v (ix2 0 0) = Exponent.inv (amax (img x0))) (r : Fin 1024) (k : Fin 768) :
    k0_pay36 k0_pay34 (k0_pay35 (k0_pay21 x0) v) (ix3 0 r k) = tap (code (img x0)) 1 2 r k := by
  unfold k0_pay36 k0_pay34 k0_pay35
  pointwise [pay33, pay32 x0 v hv]
  rw [show (63#32 : BitVec 32) = BitVec.ofNat 32 63 from rfl, eq_word _ _ (by omega) (by omega)]
  unfold tap
  have := r.isLt
  by_cases h : r.val % 64 = 63
  · rw [if_pos h, dif_neg (by simp; omega)]
  · rw [if_neg h, dif_pos (by omega), dif_pos (by simp; omega)]
    congr 1
    apply Fin.ext
    show 1 + r.val = r.val + 64 * 1 + 2 - 65
    omega

end Cert.KernelImage

end
-- ==== Proof.KernelDots.lean ====
/- The kernel's nine products for one image, and the scaled weights, read element by element. -/
module

public import proofs.«01_k».proof.Proof.Gen.KernelIdeal.Skeleton
public import proofs.«01_k».proof.Proof.Spec

@[expose] public section

noncomputable section

namespace Cert.KernelDots

open Idealize.ShloMosaic Cert.KernelIdeal Cert.KernelIdeal.Gen Cert.Exponent Cert.Spec

/-- One product added to a running sum. -/
theorem step (B : Vec Ideal S1x1024x768 .bf16) (W : Vec Ideal S1x512x768 .bf16) (r : Fin 1024) (c : Fin 512) :
    (matmul dot_S1024x768_S512x768_S1024x512_1_1_0_0_n_n none (shapeCast S1024x768 B shapeCasts_S1x1024x768_S1024x768 : FVec Ideal S1024x768 .bf16)
      (shapeCast S512x768 W shapeCasts_S1x512x768_S512x768 : FVec Ideal S512x768 .bf16) (constant S1024x512 .f32 0x00000000#32) : FVec Ideal S1024x512 .f32) (ix2 r c) =
      ∑ k : Fin 768, B (ix3 0 r k) * W (ix3 0 c k) := by
  pointwise

theorem pay39 (B : Vec Ideal S1x1024x768 .bf16) (W : Vec Ideal S1x512x768 .bf16) (r : Fin 1024) (c : Fin 512) :
    k0_pay39 B W (ix2 r c) = ∑ k : Fin 768, B (ix3 0 r k) * W (ix3 0 c k) := step B W r c

theorem pay41 (v : FVec Ideal S1024x512 .f32) (B1 B2 B3 B4 B5 : Vec Ideal S1x1024x768 .bf16) (W1 W2 W3 W4 W5 : Vec Ideal S1x512x768 .bf16) (r : Fin 1024) (c : Fin 512) :
    k0_pay41 v (k0_pay40 B1) W1 B2 W2 B3 W3 B4 W4 B5 W5 (ix2 r c) =
      v (ix2 r c) + (∑ k : Fin 768, B1 (ix3 0 r k) * W1 (ix3 0 c k)) + (∑ k : Fin 768, B2 (ix3 0 r k) * W2 (ix3 0 c k))
        + (∑ k : Fin 768, B3 (ix3 0 r k) * W3 (ix3 0 c k)) + (∑ k : Fin 768, B4 (ix3 0 r k) * W4 (ix3 0 c k))
        + (∑ k : Fin 768, B5 (ix3 0 r k) * W5 (ix3 0 c k)) := by
  rw [← step B1 W1 r c, ← step B2 W2 r c, ← step B3 W3 r c, ← step B4 W4 r c, ← step B5 W5 r c]
  rfl

/-- The last three products, the scaling and the reshape. -/
theorem pay1 (D : FVec Ideal S8x128 .f32) (v : FVec Ideal S1024x512 .f32) (B1 B2 B3 : Vec Ideal S1x1024x768 .bf16) (W1 W2 W3 : Vec Ideal S1x512x768 .bf16) (r : Fin 1024) (c : Fin 512) :
    k0_pay1 D v B1 W1 B2 W2 B3 W3 (ix3 0 r c) =
      (v (ix2 r c) + (∑ k : Fin 768, B1 (ix3 0 r k) * W1 (ix3 0 c k)) + (∑ k : Fin 768, B2 (ix3 0 r k) * W2 (ix3 0 c k))
        + (∑ k : Fin 768, B3 (ix3 0 r k) * W3 (ix3 0 c k))) * D (ix2 0 0) := by
  unfold k0_pay1
  pointwise

/-- Nine blocks of shifted codes and nine taps of the weights give the specified gradient. -/
theorem dx_eq (X : Img) (W : Fin 3 → Fin 3 → Fin 512 → Fin 768 → EReal) (D : FVec Ideal S8x128 .f32)
    (B0 B1 B2 B3 B4 B5 B6 B7 B8 : Vec Ideal S1x1024x768 .bf16) (W0 W1 W2 W3 W4 W5 W6 W7 W8 : Vec Ideal S1x512x768 .bf16)
    (hD : D (ix2 0 0) = scl (amax X))
    (b0 : ∀ r k, B0 (ix3 0 r k) = tap (code X) 2 2 r k) (b1 : ∀ r k, B1 (ix3 0 r k) = tap (code X) 2 1 r k) (b2 : ∀ r k, B2 (ix3 0 r k) = tap (code X) 2 0 r k)
    (b3 : ∀ r k, B3 (ix3 0 r k) = tap (code X) 1 2 r k) (b4 : ∀ r k, B4 (ix3 0 r k) = tap (code X) 1 1 r k) (b5 : ∀ r k, B5 (ix3 0 r k) = tap (code X) 1 0 r k)
    (b6 : ∀ r k, B6 (ix3 0 r k) = tap (code X) 0 2 r k) (b7 : ∀ r k, B7 (ix3 0 r k) = tap (code X) 0 1 r k) (b8 : ∀ r k, B8 (ix3 0 r k) = tap (code X) 0 0 r k)
    (w0 : ∀ c k, W0 (ix3 0 c k) = W 0 0 c k) (w1 : ∀ c k, W1 (ix3 0 c k) = W 0 1 c k) (w2 : ∀ c k, W2 (ix3 0 c k) = W 0 2 c k)
    (w3 : ∀ c k, W3 (ix3 0 c k) = W 1 0 c k) (w4 : ∀ c k, W4 (ix3 0 c k) = W 1 1 c k) (w5 : ∀ c k, W5 (ix3 0 c k) = W 1 2 c k)
    (w6 : ∀ c k, W6 (ix3 0 c k) = W 2 0 c k) (w7 : ∀ c k, W7 (ix3 0 c k) = W 2 1 c k) (w8 : ∀ c k, W8 (ix3 0 c k) = W 2 2 c k)
    (r : Fin 1024) (c : Fin 512) :
    k0_pay1 D (k0_pay41 (k0_pay39 B0 W0) (k0_pay40 B1) W1 B2 W2 B3 W3 B4 W4 B5 W5) B6 W6 B7 W7 B8 W8 (ix3 0 r c) = dx X W r c := by
  rw [pay1, pay41, pay39, hD]
  simp only [b0, b1, b2, b3, b4, b5, b6, b7, b8, w0, w1, w2, w3, w4, w5, w6, w7, w8]
  have e : ∀ i j : Fin 3, ∀ i' j' : Fin 3, 2 - i = i' → 2 - j = j' →
      (∑ k : Fin 768, tap (code X) i j r k * W i' j' c k) = dot (code X) W i j r c := by
    rintro i j _ _ rfl rfl; rfl
  rw [e 2 2 0 0 rfl rfl, e 2 1 0 1 rfl rfl, e 2 0 0 2 rfl rfl, e 1 2 1 0 rfl rfl, e 1 1 1 1 rfl rfl, e 1 0 1 2 rfl rfl,
    e 0 2 2 0 rfl rfl, e 0 1 2 1 rfl rfl, e 0 0 2 2 rfl rfl, dx]
  simp only [Fin.sum_univ_three]
  congr 1
  abel

/-! ## The scaled weights -/

variable (x2 : Vec Ideal S1x768 .f32) (v : Vec Ideal S1x512x768 .fp8e4m3) (c : Fin 512) (k : Fin 768)

theorem pay3 : k0_pay3 x2 v (ix3 0 c k) = v (ix3 0 c k) * x2 (ix2 0 k) := by
  unfold k0_pay3 k0_pay2
  pointwise

theorem pay4 : k0_pay4 x2 v (ix3 0 c k) = v (ix3 0 c k) * x2 (ix2 0 k) := by
  unfold k0_pay4 k0_pay2
  pointwise

theorem pay5 : k0_pay5 x2 v (ix3 0 c k) = v (ix3 0 c k) * x2 (ix2 0 k) := by
  unfold k0_pay5 k0_pay2
  pointwise

theorem pay7 : k0_pay7 (k0_pay6 x2 v) (ix3 0 c k) = v (ix3 0 c k) * x2 (ix2 0 k) := by
  unfold k0_pay7 k0_pay6 k0_pay2
  pointwise

theorem pay8 : k0_pay8 (k0_pay2 x2) v (ix3 0 c k) = v (ix3 0 c k) * x2 (ix2 0 k) := by
  unfold k0_pay8 k0_pay2
  pointwise

theorem pay9 : k0_pay9 (k0_pay2 x2) v (ix3 0 c k) = v (ix3 0 c k) * x2 (ix2 0 k) := by
  unfold k0_pay9 k0_pay2
  pointwise

theorem pay10 : k0_pay10 (k0_pay2 x2) v (ix3 0 c k) = v (ix3 0 c k) * x2 (ix2 0 k) := by
  unfold k0_pay10 k0_pay2
  pointwise

theorem pay12 : k0_pay12 (k0_pay11 (k0_pay2 x2) v) (ix3 0 c k) = v (ix3 0 c k) * x2 (ix2 0 k) := by
  unfold k0_pay12 k0_pay11 k0_pay2
  pointwise

theorem pay13 : k0_pay13 (k0_pay2 x2) v (ix3 0 c k) = v (ix3 0 c k) * x2 (ix2 0 k) := by
  unfold k0_pay13 k0_pay2
  pointwise

end Cert.KernelDots

end
-- ==== Proof.KernelPoint.lean ====
/- One grid point of the kernel. The first point fills the two scratch buffers before it computes; the others find the
   scaled weights there, and zero rows around the shifted copies. Either way the point writes the three results of its
   image and leaves the same two buffers. -/
module

public import proofs.«01_k».proof.Proof.KernelBuffers
public import proofs.«01_k».proof.Proof.KernelImage
public import proofs.«01_k».proof.Proof.KernelDots

@[expose] public section

noncomputable section

namespace Cert.KernelPoint

open Idealize.ShloMosaic Cert.KernelIdeal Cert.KernelIdeal.Gen Cert.Exponent Cert.Spec Cert.KernelScale Cert.KernelImage Cert.KernelBuffers

variable (c : Dev nD) (i : grid0.Coords) (arg1 : Memref sig .tc .vmem S1x1024x768 .bf16) (harg1 : arg1.IsWhole) (arg2 : Memref sig .tc .vmem S9x512x768 .fp8e4m3) (harg2 : arg2.IsWhole) (arg3 : Memref sig .tc .vmem S1x768 .f32) (harg3 : arg3.IsWhole) (arg4 : Memref sig .tc .vmem S1x1024x512 .bf16) (harg4 : arg4.IsWhole) (arg5 : Memref sig .tc .vmem S1x1024x768 .fp8e5m2) (harg5 : arg5.IsWhole) (arg6 : Memref sig .tc .vmem S1x8x128 .f32) (harg6 : arg6.IsWhole) (arg7 : Memref sig .tc .vmem S9x512x768 .bf16) (harg7 : arg7.IsWhole) (arg8 : Memref sig .tc .vmem S3x1152x768 .bf16) (harg8 : arg8.IsWhole)

variable (x0 : Vec Ideal S1x1024x768 .bf16) (x1 : Vec Ideal S9x512x768 .fp8e4m3) (x2 : Vec Ideal S1x768 .f32) (hx : InRange (amax (img x0)))

/-- The three result blocks of a point. -/
def DX : Vec Ideal S1x1024x512 .bf16 := fun p => dx (img x0) (wt x1 x2) (p 1) (p 2)
def CODE : Vec Ideal S1x1024x768 .fp8e5m2 := fun p => code (img x0) (p 1) (p 2)
def SCL : Vec Ideal S1x8x128 .f32 := fun _ => scl (amax (img x0))

include hx in
theorem codes_eq : k0_pay31 (k0_pay21 x0) (k0_pay27 (k0_pay22 x0) (k0_pay23 x0) (k0_pay24 x0) (k0_pay25 x0)) = CODE x0 := by
  funext p
  obtain ⟨a, r, k, rfl⟩ : ∃ (a : Fin 1) (r : Fin 1024) (k : Fin 768), p = ix3 a r k := ⟨p 0, p 1, p 2, eq_ix3 p⟩
  obtain rfl : a = 0 := Subsingleton.elim _ _
  exact pay31 x0 _ (pay27 x0 hx) r k

include hx in
theorem scales_eq :
    k0_pay29 (F := Ideal) (k0_pay26 (k0_pay22 x0) (k0_pay23 x0) (k0_pay24 x0) (k0_pay25 x0)) 127#32 = SCL x0 := by
  funext p
  obtain ⟨a, r, k, rfl⟩ : ∃ (a : Fin 1) (r : Fin 8) (k : Fin 128), p = ix3 a r k := ⟨p 0, p 1, p 2, eq_ix3 p⟩
  obtain rfl : a = 0 := Subsingleton.elim _ _
  exact pay29 x0 hx r k

/-! ## The zero rows -/

theorem pay15 (r : Fin 64) (k : Fin 768) : k0_pay15 (F := Ideal) (ix3 0 r k) = 0 := by
  unfold k0_pay15 k0_pay14
  pointwise

theorem pay16 (r : Fin 64) (k : Fin 768) : k0_pay16 (F := Ideal) (ix3 0 r k) = 0 := by
  unfold k0_pay16 k0_pay14
  pointwise

theorem pay17 (r : Fin 64) (k : Fin 768) : k0_pay17 (F := Ideal) (ix3 0 r k) = 0 := by
  unfold k0_pay17 k0_pay14
  pointwise

theorem pay18 (r : Fin 64) (k : Fin 768) : k0_pay18 (F := Ideal) (ix3 0 r k) = 0 := by
  unfold k0_pay18 k0_pay14
  pointwise

theorem pay19 (r : Fin 64) (k : Fin 768) : k0_pay19 (F := Ideal) (ix3 0 r k) = 0 := by
  unfold k0_pay19 k0_pay14
  pointwise

theorem pay20 (r : Fin 64) (k : Fin 768) : k0_pay20 (F := Ideal) k0_pay14 (ix3 0 r k) = 0 := by
  unfold k0_pay20 k0_pay14
  pointwise

/-! ## The two buffers -/

/-- The first point's nine writes of codes and zero rows. -/
abbrev LB : List (View.Piece (Elt Ideal) S3x1152x768 .bf16) :=
  mids (k0_pay38 (k0_pay32 (k0_pay21 x0) (k0_pay27 (k0_pay22 x0) (k0_pay23 x0) (k0_pay24 x0) (k0_pay25 x0))) k0_pay33)
    (k0_pay37 (k0_pay32 (k0_pay21 x0) (k0_pay27 (k0_pay22 x0) (k0_pay23 x0) (k0_pay24 x0) (k0_pay25 x0))))
    (k0_pay36 k0_pay34 (k0_pay35 (k0_pay21 x0) (k0_pay27 (k0_pay22 x0) (k0_pay23 x0) (k0_pay24 x0) (k0_pay25 x0))))

abbrev LZ : List (View.Piece (Elt Ideal) S3x1152x768 .bf16) :=
  edges (k0_pay20 (F := Ideal) k0_pay14) (k0_pay19 (F := Ideal)) (k0_pay18 (F := Ideal)) (k0_pay17 (F := Ideal)) (k0_pay16 (F := Ideal)) (k0_pay15 (F := Ideal))

/-- The first point's nine writes of scaled weights. -/
abbrev LW : List (View.Piece (Elt Ideal) S9x512x768 .bf16) :=
  [⟨Rect.unit ![8, 0, 0] ![1, 512, 768] inb_S9x512x768_S1x512x768_8_0_0, k0_pay13 (k0_pay2 x2) (View.ld x1 (Rect.unit ![8, 0, 0] ![1, 512, 768] inb_S9x512x768_S1x512x768_8_0_0))⟩,
    ⟨Rect.unit ![7, 0, 0] ![1, 512, 768] inb_S9x512x768_S1x512x768_7_0_0, k0_pay12 (k0_pay11 (k0_pay2 x2) (View.ld x1 (Rect.unit ![7, 0, 0] ![1, 512, 768] inb_S9x512x768_S1x512x768_7_0_0)))⟩,
    ⟨Rect.unit ![6, 0, 0] ![1, 512, 768] inb_S9x512x768_S1x512x768_6_0_0, k0_pay10 (k0_pay2 x2) (View.ld x1 (Rect.unit ![6, 0, 0] ![1, 512, 768] inb_S9x512x768_S1x512x768_6_0_0))⟩,
    ⟨Rect.unit ![5, 0, 0] ![1, 512, 768] inb_S9x512x768_S1x512x768_5_0_0, k0_pay9 (k0_pay2 x2) (View.ld x1 (Rect.unit ![5, 0, 0] ![1, 512, 768] inb_S9x512x768_S1x512x768_5_0_0))⟩,
    ⟨Rect.unit ![4, 0, 0] ![1, 512, 768] inb_S9x512x768_S1x512x768_4_0_0, k0_pay8 (k0_pay2 x2) (View.ld x1 (Rect.unit ![4, 0, 0] ![1, 512, 768] inb_S9x512x768_S1x512x768_4_0_0))⟩,
    ⟨Rect.unit ![3, 0, 0] ![1, 512, 768] inb_S9x512x768_S1x512x768_3_0_0, k0_pay7 (k0_pay6 x2 (View.ld x1 (Rect.unit ![3, 0, 0] ![1, 512, 768] inb_S9x512x768_S1x512x768_3_0_0)))⟩,
    ⟨Rect.unit ![2, 0, 0] ![1, 512, 768] inb_S9x512x768_S1x512x768_2_0_0, k0_pay5 x2 (View.ld x1 (Rect.unit ![2, 0, 0] ![1, 512, 768] inb_S9x512x768_S1x512x768_2_0_0))⟩,
    ⟨Rect.unit ![1, 0, 0] ![1, 512, 768] inb_S9x512x768_S1x512x768_1_0_0, k0_pay4 x2 (View.ld x1 (Rect.unit ![1, 0, 0] ![1, 512, 768] inb_S9x512x768_S1x512x768_1_0_0))⟩,
    ⟨Rect.unit ![0, 0, 0] ![1, 512, 768] inb_S9x512x768_S1x512x768_0_0_0, k0_pay3 x2 (View.ld x1 (Rect.unit ![0, 0, 0] ![1, 512, 768] inb_S9x512x768_S1x512x768_0_0_0))⟩]

/-- They leave the scaled weights. -/
theorem canon_LW : View.canon (LW x1 x2) = WD x1 x2 := by
  funext y
  refine View.canon_apply_of_pieces (WD x1 x2) _ ?_ y ?_
  · intro p hp
    rcases List.mem_cons.mp hp with rfl | hp
    · exact tapw x1 x2 8 (by omega) _ _ fun c k => KernelDots.pay13 x2 _ c k
    rcases List.mem_cons.mp hp with rfl | hp
    · exact tapw x1 x2 7 (by omega) _ _ fun c k => KernelDots.pay12 x2 _ c k
    rcases List.mem_cons.mp hp with rfl | hp
    · exact tapw x1 x2 6 (by omega) _ _ fun c k => KernelDots.pay10 x2 _ c k
    rcases List.mem_cons.mp hp with rfl | hp
    · exact tapw x1 x2 5 (by omega) _ _ fun c k => KernelDots.pay9 x2 _ c k
    rcases List.mem_cons.mp hp with rfl | hp
    · exact tapw x1 x2 4 (by omega) _ _ fun c k => KernelDots.pay8 x2 _ c k
    rcases List.mem_cons.mp hp with rfl | hp
    · exact tapw x1 x2 3 (by omega) _ _ fun c k => KernelDots.pay7 x2 _ c k
    rcases List.mem_cons.mp hp with rfl | hp
    · exact tapw x1 x2 2 (by omega) _ _ fun c k => KernelDots.pay5 x2 _ c k
    rcases List.mem_cons.mp hp with rfl | hp
    · exact tapw x1 x2 1 (by omega) _ _ fun c k => KernelDots.pay4 x2 _ c k
    rcases List.mem_cons.mp hp with rfl | hp
    · exact tapw x1 x2 0 (by omega) _ _ fun c k => KernelDots.pay3 x2 _ c k
    · exact absurd hp List.not_mem_nil
  · have h9 : (y 0).val < 9 := (y 0).isLt
    rcases (by omega : (y 0).val = 8 ∨ (y 0).val = 7 ∨ (y 0).val = 6 ∨ (y 0).val = 5 ∨ (y 0).val = 4 ∨ (y 0).val = 3 ∨ (y 0).val = 2 ∨ (y 0).val = 1 ∨ (y 0).val = 0)
      with h | h | h | h | h | h | h | h | h
    · exact ⟨_, .head _, mem_tap 8 inb_S9x512x768_S1x512x768_8_0_0 y h⟩
    · exact ⟨_, .tail _ (.head _), mem_tap 7 inb_S9x512x768_S1x512x768_7_0_0 y h⟩
    · exact ⟨_, .tail _ (.tail _ (.head _)), mem_tap 6 inb_S9x512x768_S1x512x768_6_0_0 y h⟩
    · exact ⟨_, .tail _ (.tail _ (.tail _ (.head _))), mem_tap 5 inb_S9x512x768_S1x512x768_5_0_0 y h⟩
    · exact ⟨_, .tail _ (.tail _ (.tail _ (.tail _ (.head _)))), mem_tap 4 inb_S9x512x768_S1x512x768_4_0_0 y h⟩
    · exact ⟨_, .tail _ (.tail _ (.tail _ (.tail _ (.tail _ (.head _))))), mem_tap 3 inb_S9x512x768_S1x512x768_3_0_0 y h⟩
    · exact ⟨_, .tail _ (.tail _ (.tail _ (.tail _ (.tail _ (.tail _ (.head _)))))), mem_tap 2 inb_S9x512x768_S1x512x768_2_0_0 y h⟩
    · exact ⟨_, .tail _ (.tail _ (.tail _ (.tail _ (.tail _ (.tail _ (.tail _ (.head _))))))), mem_tap 1 inb_S9x512x768_S1x512x768_1_0_0 y h⟩
    · exact ⟨_, .tail _ (.tail _ (.tail _ (.tail _ (.tail _ (.tail _ (.tail _ (.tail _ (.head _)))))))), mem_tap 0 inb_S9x512x768_S1x512x768_0_0_0 y h⟩

include hx in
theorem canon_LB : View.canon (LB x0 ++ LZ) = BUF (code (img x0)) :=
  canon_all _ _ _ _ (pay38 x0 _ (pay27 x0 hx)) (pay37 x0 _ (pay27 x0 hx)) (pay36 x0 _ (pay27 x0 hx)) _ _ _ _ _ _ pay20 pay19 pay18 pay17 pay16 pay15

include hx in
theorem canon_LB' (y : S3x1152x768.Idx) (hl : 64 ≤ (y 1).val) (hu : (y 1).val < 1088) : View.canon (LB x0) y = BUF (code (img x0)) y :=
  canon_mids _ _ _ _ (pay38 x0 _ (pay27 x0 hx)) (pay37 x0 _ (pay27 x0 hx)) (pay36 x0 _ (pay27 x0 hx)) y hl hu

include hx in
theorem writes_LB (xs : Vec Ideal S3x1152x768 .bf16) (hxs : ∀ y : S3x1152x768.Idx, ((y 1).val < 64 ∨ 1088 ≤ (y 1).val) → xs y = 0) :
    View.read (Elt Ideal) arg8.view (arg8.view.writes (Elt Ideal) (harg8.unread xs) (LB x0)) = BUF (code (img x0)) :=
  writes_mids _ _ _ _ (pay38 x0 _ (pay27 x0 hx)) (pay37 x0 _ (pay27 x0 hx)) (pay36 x0 _ (pay27 x0 hx)) arg8 harg8 xs hxs

end Cert.KernelPoint

end
-- ==== Proof.KernelPointA.lean ====
/- The first grid point: it fills the scratch buffers and computes its image. -/
module

public import proofs.«01_k».proof.Proof.KernelPoint

@[expose] public section

noncomputable section

namespace Cert.KernelPointA

open Idealize.ShloMosaic Cert.KernelIdeal Cert.KernelIdeal.Gen Cert.Exponent Cert.Spec Cert.KernelScale Cert.KernelImage Cert.KernelBuffers Cert.KernelPoint

variable (c : Dev nD) (i : grid0.Coords) (arg1 : Memref sig .tc .vmem S1x1024x768 .bf16) (harg1 : arg1.IsWhole) (arg2 : Memref sig .tc .vmem S9x512x768 .fp8e4m3) (harg2 : arg2.IsWhole) (arg3 : Memref sig .tc .vmem S1x768 .f32) (harg3 : arg3.IsWhole) (arg4 : Memref sig .tc .vmem S1x1024x512 .bf16) (harg4 : arg4.IsWhole) (arg5 : Memref sig .tc .vmem S1x1024x768 .fp8e5m2) (harg5 : arg5.IsWhole) (arg6 : Memref sig .tc .vmem S1x8x128 .f32) (harg6 : arg6.IsWhole) (arg7 : Memref sig .tc .vmem S9x512x768 .bf16) (harg7 : arg7.IsWhole) (arg8 : Memref sig .tc .vmem S3x1152x768 .bf16) (harg8 : arg8.IsWhole)

variable (x0 : Vec Ideal S1x1024x768 .bf16) (x1 : Vec Ideal S9x512x768 .fp8e4m3) (x2 : Vec Ideal S1x768 .f32) (hx : InRange (amax (img x0)))

variable (hc0 : cond0_0 i)

/-- The nine writes of codes and zero rows, as one list. -/
abbrev L9 : List (View.Piece (Elt Ideal) S3x1152x768 .bf16) :=
  [⟨Rect.unit ![2, 64, 0] ![1, 1024, 768] inb_S3x1152x768_S1x1024x768_2_64_0, k0_pay38 (k0_pay32 (k0_pay21 x0) (k0_pay27 (k0_pay22 x0) (k0_pay23 x0) (k0_pay24 x0) (k0_pay25 x0))) k0_pay33⟩,
    ⟨Rect.unit ![1, 64, 0] ![1, 1024, 768] inb_S3x1152x768_S1x1024x768_1_64_0, k0_pay37 (k0_pay32 (k0_pay21 x0) (k0_pay27 (k0_pay22 x0) (k0_pay23 x0) (k0_pay24 x0) (k0_pay25 x0)))⟩,
    ⟨Rect.unit ![0, 64, 0] ![1, 1024, 768] inb_S3x1152x768_S1x1024x768_0_64_0, k0_pay36 k0_pay34 (k0_pay35 (k0_pay21 x0) (k0_pay27 (k0_pay22 x0) (k0_pay23 x0) (k0_pay24 x0) (k0_pay25 x0)))⟩,
    ⟨Rect.unit ![2, 1088, 0] ![1, 64, 768] inb_S3x1152x768_S1x64x768_2_1088_0, k0_pay20 (F := Ideal) k0_pay14⟩,
    ⟨Rect.unit ![2, 0, 0] ![1, 64, 768] inb_S3x1152x768_S1x64x768_2_0_0, k0_pay19 (F := Ideal)⟩,
    ⟨Rect.unit ![1, 1088, 0] ![1, 64, 768] inb_S3x1152x768_S1x64x768_1_1088_0, k0_pay18 (F := Ideal)⟩,
    ⟨Rect.unit ![1, 0, 0] ![1, 64, 768] inb_S3x1152x768_S1x64x768_1_0_0, k0_pay17 (F := Ideal)⟩,
    ⟨Rect.unit ![0, 1088, 0] ![1, 64, 768] inb_S3x1152x768_S1x64x768_0_1088_0, k0_pay16 (F := Ideal)⟩,
    ⟨Rect.unit ![0, 0, 0] ![1, 64, 768] inb_S3x1152x768_S1x64x768_0_0_0, k0_pay15 (F := Ideal)⟩]

theorem canon_L9 (hx : InRange (amax (img x0))) : View.canon (L9 x0) = BUF (code (img x0)) := canon_LB x0 hx

/-- A load of the shifted copies after the first point's writes. -/
theorem loadB (hx : InRange (amax (img x0))) (w o : ℕ) (i j : Fin 3) (hj : w + j.val = 2) (ho : o = 64 * i.val) (inb) (r : Fin 1024) (k : Fin 768) :
    arg8.view.readCov (L9 x0) (Rect.unit (s := S3x1152x768) ![w, o, 0] ![1, 1024, 768] inb).toLoadRect (ix3 0 r k) = tap (code (img x0)) i j r k := by
  rw [View.readCov_eq_canon', canon_L9 x0 hx]
  exact BUF_load _ w o i j hj ho inb r k

/-- A load of the scaled weights after the first point's writes. -/
theorem loadW (t : ℕ) (a b : Fin 3) (h : t = 3 * a.val + b.val) (inb) (d : Fin 512) (k : Fin 768) :
    arg7.view.readCov (LW x1 x2) (Rect.unit (s := S9x512x768) ![t, 0, 0] ![1, 512, 768] inb).toLoadRect (ix3 0 d k) = wt x1 x2 a b d k := by
  rw [View.readCov_eq_canon', canon_LW x1 x2]
  exact WD_load x1 x2 t a b h inb d k

include hx in
theorem dx_A : out0_A_3 c i arg1 harg1 arg2 harg2 arg3 harg3 arg4 harg4 arg5 harg5 arg6 harg6 arg7 harg7 arg8 harg8 hc0 x0 x1 x2 = DX x0 x1 x2 := by
  frame_open
  frame_out
  funext p
  obtain ⟨a, r, d, rfl⟩ : ∃ (a : Fin 1) (r : Fin 1024) (d : Fin 512), p = ix3 a r d := ⟨p 0, p 1, p 2, eq_ix3 p⟩
  obtain rfl : a = 0 := Subsingleton.elim _ _
  refine KernelDots.dx_eq (img x0) (wt x1 x2) _ _ _ _ _ _ _ _ _ _ _ _ _ _ _ _ _ _ _ (pay28 x0 hx 0 0)
    ?_ ?_ ?_ ?_ ?_ ?_ ?_ ?_ ?_ ?_ ?_ ?_ ?_ ?_ ?_ ?_ ?_ ?_ r d
  · exact loadB arg8 x0 hx 0 128 2 2 rfl rfl _
  · exact loadB arg8 x0 hx 1 128 2 1 rfl rfl _
  · exact loadB arg8 x0 hx 2 128 2 0 rfl rfl _
  · exact loadB arg8 x0 hx 0 64 1 2 rfl rfl _
  · exact loadB arg8 x0 hx 1 64 1 1 rfl rfl _
  · exact loadB arg8 x0 hx 2 64 1 0 rfl rfl _
  · exact loadB arg8 x0 hx 0 0 0 2 rfl rfl _
  · exact loadB arg8 x0 hx 1 0 0 1 rfl rfl _
  · exact loadB arg8 x0 hx 2 0 0 0 rfl rfl _
  · exact loadW arg7 x1 x2 0 0 0 rfl _
  · exact loadW arg7 x1 x2 1 0 1 rfl _
  · exact loadW arg7 x1 x2 2 0 2 rfl _
  · exact loadW arg7 x1 x2 3 1 0 rfl _
  · exact loadW arg7 x1 x2 4 1 1 rfl _
  · exact loadW arg7 x1 x2 5 1 2 rfl _
  · exact loadW arg7 x1 x2 6 2 0 rfl _
  · exact loadW arg7 x1 x2 7 2 1 rfl _
  · exact loadW arg7 x1 x2 8 2 2 rfl _

include hx in
theorem code_A : out0_A_4 c i arg1 harg1 arg2 harg2 arg3 harg3 arg4 harg4 arg5 harg5 arg6 harg6 arg7 harg7 arg8 harg8 hc0 x0 x1 x2 = CODE x0 := by
  frame_out
  exact codes_eq x0 hx

include hx in
theorem scl_A : out0_A_5 c i arg1 harg1 arg2 harg2 arg3 harg3 arg4 harg4 arg5 harg5 arg6 harg6 arg7 harg7 arg8 harg8 hc0 x0 x1 x2 = SCL x0 := by
  frame_out
  exact scales_eq x0 hx

theorem wd_A : sout0_A_0 c i arg1 harg1 arg2 harg2 arg3 harg3 arg4 harg4 arg5 harg5 arg6 harg6 arg7 harg7 arg8 harg8 hc0 x0 x1 x2 = WD x1 x2 := by
  frame_out
  exact canon_LW x1 x2

include hx in
theorem buf_A : sout0_A_1 c i arg1 harg1 arg2 harg2 arg3 harg3 arg4 harg4 arg5 harg5 arg6 harg6 arg7 harg7 arg8 harg8 hc0 x0 x1 x2 = BUF (code (img x0)) := by
  frame_out
  exact canon_L9 x0 hx

end Cert.KernelPointA

end
-- ==== Proof.KernelPointB.lean ====
/- Every later grid point: the scaled weights and the zero rows are already in the scratch buffers. -/
module

public import proofs.«01_k».proof.Proof.KernelPoint

@[expose] public section

noncomputable section

namespace Cert.KernelPointB

open Idealize.ShloMosaic Cert.KernelIdeal Cert.KernelIdeal.Gen Cert.Exponent Cert.Spec Cert.KernelScale Cert.KernelImage Cert.KernelBuffers Cert.KernelPoint

variable (c : Dev nD) (i : grid0.Coords) (arg1 : Memref sig .tc .vmem S1x1024x768 .bf16) (harg1 : arg1.IsWhole) (arg2 : Memref sig .tc .vmem S9x512x768 .fp8e4m3) (harg2 : arg2.IsWhole) (arg3 : Memref sig .tc .vmem S1x768 .f32) (harg3 : arg3.IsWhole) (arg4 : Memref sig .tc .vmem S1x1024x512 .bf16) (harg4 : arg4.IsWhole) (arg5 : Memref sig .tc .vmem S1x1024x768 .fp8e5m2) (harg5 : arg5.IsWhole) (arg6 : Memref sig .tc .vmem S1x8x128 .f32) (harg6 : arg6.IsWhole) (arg7 : Memref sig .tc .vmem S9x512x768 .bf16) (harg7 : arg7.IsWhole) (arg8 : Memref sig .tc .vmem S3x1152x768 .bf16) (harg8 : arg8.IsWhole)

variable (x0 : Vec Ideal S1x1024x768 .bf16) (x1 : Vec Ideal S9x512x768 .fp8e4m3) (x2 : Vec Ideal S1x768 .f32) (hx : InRange (amax (img x0)))

variable (hc0 : ¬ cond0_0 i) (xs1 : Vec Ideal S3x1152x768 .bf16) (hxs : ∀ y : S3x1152x768.Idx, ((y 1).val < 64 ∨ 1088 ≤ (y 1).val) → xs1 y = 0)

/-- A load of the whole buffer of shifted copies. -/
theorem loadB (hx : InRange (amax (img x0))) (hxs : ∀ y : S3x1152x768.Idx, ((y 1).val < 64 ∨ 1088 ≤ (y 1).val) → xs1 y = 0)
    (w o : ℕ) (i j : Fin 3) (hj : w + j.val = 2) (ho : o = 64 * i.val) (inb) (r : Fin 1024) (k : Fin 768) :
    View.ld (View.read (Elt Ideal) arg8.view (arg8.view.writes (Elt Ideal) (harg8.unread xs1) (LB x0)))
      (Rect.unit (s := S3x1152x768) ![w, o, 0] ![1, 1024, 768] inb) (ix3 0 r k) = tap (code (img x0)) i j r k := by
  rw [writes_LB arg8 harg8 x0 hx xs1 hxs]
  exact BUF_load _ w o i j hj ho inb r k

/-- A load of the rows just written. -/
theorem loadM (hx : InRange (amax (img x0))) (w : ℕ) (j : Fin 3) (hj : w + j.val = 2) (inb) (r : Fin 1024) (k : Fin 768) :
    arg8.view.readCov (LB x0) (Rect.unit (s := S3x1152x768) ![w, 64, 0] ![1, 1024, 768] inb).toLoadRect (ix3 0 r k) = tap (code (img x0)) 1 j r k := by
  rw [View.readCov_eq_canon']
  have e : ((Rect.unit (s := S3x1152x768) ![w, 64, 0] ![1, 1024, 768] inb).emb (ix3 0 r k) 1).val = 64 + r.val :=
    ValueKit.rect_emb_unit_val (s := S3x1152x768) _ _ inb (ix3 0 r k) 1
  have := r.isLt
  exact (canon_LB' x0 hx ((Rect.unit (s := S3x1152x768) ![w, 64, 0] ![1, 1024, 768] inb).emb (ix3 0 r k)) (by omega) (by omega)).trans
    (BUF_load _ w 64 1 j hj rfl inb r k)

include hx hxs in
theorem dx_B : out0_B_3 c i arg1 harg1 arg2 harg2 arg3 harg3 arg4 harg4 arg5 harg5 arg6 harg6 arg7 harg7 arg8 harg8 hc0 x0 x1 x2 (WD x1 x2) xs1 = DX x0 x1 x2 := by
  frame_open
  frame_out
  funext p
  obtain ⟨a, r, d, rfl⟩ : ∃ (a : Fin 1) (r : Fin 1024) (d : Fin 512), p = ix3 a r d := ⟨p 0, p 1, p 2, eq_ix3 p⟩
  obtain rfl : a = 0 := Subsingleton.elim _ _
  refine KernelDots.dx_eq (img x0) (wt x1 x2) _ _ _ _ _ _ _ _ _ _ _ _ _ _ _ _ _ _ _ (pay28 x0 hx 0 0)
    ?_ ?_ ?_ ?_ ?_ ?_ ?_ ?_ ?_ ?_ ?_ ?_ ?_ ?_ ?_ ?_ ?_ ?_ r d
  · exact loadB arg8 harg8 x0 xs1 hx hxs 0 128 2 2 rfl rfl _
  · exact loadB arg8 harg8 x0 xs1 hx hxs 1 128 2 1 rfl rfl _
  · exact loadB arg8 harg8 x0 xs1 hx hxs 2 128 2 0 rfl rfl _
  · exact loadM arg8 x0 hx 0 2 rfl _
  · exact loadM arg8 x0 hx 1 1 rfl _
  · exact loadM arg8 x0 hx 2 0 rfl _
  · exact loadB arg8 harg8 x0 xs1 hx hxs 0 0 0 2 rfl rfl _
  · exact loadB arg8 harg8 x0 xs1 hx hxs 1 0 0 1 rfl rfl _
  · exact loadB arg8 harg8 x0 xs1 hx hxs 2 0 0 0 rfl rfl _
  · exact WD_load x1 x2 0 0 0 rfl _
  · exact WD_load x1 x2 1 0 1 rfl _
  · exact WD_load x1 x2 2 0 2 rfl _
  · exact WD_load x1 x2 3 1 0 rfl _
  · exact WD_load x1 x2 4 1 1 rfl _
  · exact WD_load x1 x2 5 1 2 rfl _
  · exact WD_load x1 x2 6 2 0 rfl _
  · exact WD_load x1 x2 7 2 1 rfl _
  · exact WD_load x1 x2 8 2 2 rfl _

include hx in
theorem code_B : out0_B_4 c i arg1 harg1 arg2 harg2 arg3 harg3 arg4 harg4 arg5 harg5 arg6 harg6 arg7 harg7 arg8 harg8 hc0 x0 x1 x2 (WD x1 x2) xs1 = CODE x0 := by
  frame_out
  exact codes_eq x0 hx

include hx in
theorem scl_B : out0_B_5 c i arg1 harg1 arg2 harg2 arg3 harg3 arg4 harg4 arg5 harg5 arg6 harg6 arg7 harg7 arg8 harg8 hc0 x0 x1 x2 (WD x1 x2) xs1 = SCL x0 := by
  frame_out
  exact scales_eq x0 hx

theorem wd_B : sout0_B_0 c i arg1 harg1 arg2 harg2 arg3 harg3 arg4 harg4 arg5 harg5 arg6 harg6 arg7 harg7 arg8 harg8 hc0 x0 x1 x2 (WD x1 x2) xs1 = WD x1 x2 := rfl

include hx hxs in
theorem buf_B : sout0_B_1 c i arg1 harg1 arg2 harg2 arg3 harg3 arg4 harg4 arg5 harg5 arg6 harg6 arg7 harg7 arg8 harg8 hc0 x0 x1 x2 (WD x1 x2) xs1 = BUF (code (img x0)) := by
  frame_open
  frame_out
  exact writes_LB arg8 harg8 x0 hx xs1 hxs

end Cert.KernelPointB

end
-- ==== Proof.KernelRun.lean ====
/- The whole run of the kernel: what each grid point leaves, and what the three result arrays end up holding. -/
module

public import proofs.«01_k».proof.Proof.Arrays
public import proofs.«01_k».proof.Proof.KernelPointA
public import proofs.«01_k».proof.Proof.KernelPointB
public import proofs.«01_k».proof.Proof.Gen.KernelIdeal.Value

@[expose] public section

noncomputable section

namespace Cert.KernelRun

open Idealize.ShloMosaic Idealize.ShloMosaic.TcCoe Cert.KernelIdeal Cert.KernelIdeal.Gen Cert.Exponent Cert.Spec Cert.KernelScale Cert.KernelImage Cert.KernelBuffers Cert.KernelPoint

variable (m : (ℓ : Loc nD τ sig) → Buf (Elt Ideal) ℓ) (c : Dev nD)

/-- The three arguments as arrays. -/
abbrev A0 : Vec Ideal S48x16x64x768 .bf16 := m ((c : Thread nD τ).loc main_arg0)
abbrev A1 : Vec Ideal S3x3x512x768 .fp8e4m3 := m ((c : Thread nD τ).loc main_arg1)
abbrev A2 : Vec Ideal S768 .f32 := m ((c : Thread nD τ).loc main_arg2)

/-! ## The arrays the grid reads -/

theorem V0 : V m c main_v0 = shapeCast S48x1024x768 (A0 m c) shapeCasts_S48x16x64x768_S48x1024x768 := rfl
theorem V1 : V m c main_v1 = shapeCast S9x512x768 (A1 m c) shapeCasts_S3x3x512x768_S9x512x768 := rfl
theorem V2 : V m c main_v2 = shapeCast S1x768 (A2 m c) shapeCasts_S768_S1x768 := rfl

theorem cast0 (A : Vec Ideal S48x16x64x768 .bf16) (n : Fin 48) (r : Fin 1024) (k : Fin 768) :
    shapeCast S48x1024x768 A shapeCasts_S48x16x64x768_S48x1024x768 (ix3 n r k) = image A n r k := by
  unfold image
  pointwise

theorem cast1 (A : Vec Ideal S3x3x512x768 .fp8e4m3) (a b : Fin 3) (d : Fin 512) (k : Fin 768) :
    shapeCast S9x512x768 A shapeCasts_S3x3x512x768_S9x512x768 (ix3 (⟨3 * a.val + b.val, by omega⟩ : Fin 9) d k) = A (ix4 a b d k) := by
  pointwise

theorem cast2 (A : Vec Ideal S768 .f32) (k : Fin 768) :
    shapeCast S1x768 A shapeCasts_S768_S1x768 (ix2 0 k) = A (ix1 k) := by
  pointwise

/-- Point `t` reads image `t`. -/
theorem iblk0 (t : Fin cfg0.N) (r : Fin 1024) (k : Fin 768) :
    (iblk m c 0 t : Vec Ideal S1x1024x768 .bf16) (ix3 0 r k) = image (A0 m c) ⟨t.val, lt_of_lt_of_eq t.isLt N_0⟩ r k := by
  rw [← cast0, ← V0]
  have e : win0_0.index t = ![t.val, 0, 0] := (by decide +kernel : ∀ t : Fin grid0.N, win0_0.index t = ![t.val, 0, 0]) t
  show V m c main_v0 (((cfg0.win 0).blk t).view.emb (ix3 0 r k)) = _
  refine congrArg _ ?_
  funext a
  apply Fin.ext
  match a with
  | ⟨0, _⟩ => show win0_0.index t (0 : Fin 3) * 1 + 1 * 0 = t.val; rw [e]; show t.val * 1 + 1 * 0 = t.val; omega
  | ⟨1, _⟩ => show win0_0.index t (1 : Fin 3) * 1024 + 1 * r.val = r.val; rw [e]; show 0 * 1024 + 1 * r.val = r.val; omega
  | ⟨2, _⟩ => show win0_0.index t (2 : Fin 3) * 768 + 1 * k.val = k.val; rw [e]; show 0 * 768 + 1 * k.val = k.val; omega

/-- Every point reads all the weights. -/
theorem iblk1 (t : Fin cfg0.N) : (iblk m c 1 t : Vec Ideal S9x512x768 .fp8e4m3) = V m c main_v1 := by
  have e : win0_1.index t = ![0, 0, 0] := (by decide +kernel : ∀ t : Fin grid0.N, win0_1.index t = ![0, 0, 0]) t
  funext y
  show V m c main_v1 (((cfg0.win 1).blk t).view.emb y) = _
  refine congrArg _ ?_
  funext a
  apply Fin.ext
  match a with
  | ⟨0, _⟩ => show win0_1.index t (0 : Fin 3) * 9 + 1 * (y 0).val = (y 0).val; rw [e]; show 0 * 9 + 1 * (y 0).val = (y 0).val; omega
  | ⟨1, _⟩ => show win0_1.index t (1 : Fin 3) * 512 + 1 * (y 1).val = (y 1).val; rw [e]; show 0 * 512 + 1 * (y 1).val = (y 1).val; omega
  | ⟨2, _⟩ => show win0_1.index t (2 : Fin 3) * 768 + 1 * (y 2).val = (y 2).val; rw [e]; show 0 * 768 + 1 * (y 2).val = (y 2).val; omega

/-- Every point reads all the channel scales. -/
theorem iblk2 (t : Fin cfg0.N) : (iblk m c 2 t : Vec Ideal S1x768 .f32) = V m c main_v2 := by
  have e : win0_2.index t = ![0, 0] := (by decide +kernel : ∀ t : Fin grid0.N, win0_2.index t = ![0, 0]) t
  funext y
  show V m c main_v2 (((cfg0.win 2).blk t).view.emb y) = _
  refine congrArg _ ?_
  funext a
  apply Fin.ext
  match a with
  | ⟨0, _⟩ => show win0_2.index t (0 : Fin 2) * 1 + 1 * (y 0).val = (y 0).val; rw [e]; show 0 * 1 + 1 * (y 0).val = (y 0).val; omega
  | ⟨1, _⟩ => show win0_2.index t (1 : Fin 2) * 768 + 1 * (y 1).val = (y 1).val; rw [e]; show 0 * 768 + 1 * (y 1).val = (y 1).val; omega

theorem img_iblk (t : Fin cfg0.N) : img (iblk m c 0 t) = image (A0 m c) ⟨t.val, lt_of_lt_of_eq t.isLt N_0⟩ :=
  funext fun r => funext fun k => iblk0 m c t r k

theorem wt_V : wt (V m c main_v1) (V m c main_v2) = weight (A1 m c) (A2 m c) := by
  funext a b d k
  unfold wt weight
  rw [V1, V2, cast1, cast2]

/-! ## What each point leaves -/

variable (hx : ∀ n : Fin 48, InRange (amax (image (A0 m c) n)))

/-- The results of a point and the two buffers it leaves. -/
abbrev Left (t : Fin cfg0.N) : Vec Ideal S1x1024x512 .bf16 × Vec Ideal S1x1024x768 .fp8e5m2 × Vec Ideal S1x8x128 .f32 × Vec Ideal S9x512x768 .bf16 × Vec Ideal S3x1152x768 .bf16 :=
  (DX (iblk m c 0 t) (V m c main_v1) (V m c main_v2), CODE (iblk m c 0 t), SCL (iblk m c 0 t), WD (V m c main_v1) (V m c main_v2), BUF (code (img (iblk m c 0 t))))

/-- The rows around the shifted copies are zero. -/
theorem BUF_edge (C : Img) (y : S3x1152x768.Idx) (h : (y 1).val < 64 ∨ 1088 ≤ (y 1).val) : BUF C y = 0 := shift_edge _ _ _ _ h

include hx in
theorem leaves : ∀ (n : ℕ) (hn : n < cfg0.N), outsAt0 m c n hn = Left m c ⟨n, hn⟩ := by
  intro n
  induction n with
  | zero =>
    intro hn
    have ht : InRange (amax (img (iblk m c 0 ⟨0, hn⟩))) := by rw [img_iblk]; exact hx _
    rw [outsAt0_A m c ⟨0, hn⟩ (Nat.zero_mod _), KernelPointA.dx_A _ _ _ _ _ _ _ _ _ _ _ _ _ _ _ _ _ _ _ _ _ ht, KernelPointA.code_A _ _ _ _ _ _ _ _ _ _ _ _ _ _ _ _ _ _ _ _ _ ht,
      KernelPointA.scl_A _ _ _ _ _ _ _ _ _ _ _ _ _ _ _ _ _ _ _ _ _ ht, KernelPointA.wd_A, KernelPointA.buf_A _ _ _ _ _ _ _ _ _ _ _ _ _ _ _ _ _ _ _ _ _ ht,
      iblk1, iblk2]
  | succ n ih =>
    intro hn
    have ht : InRange (amax (img (iblk m c 0 ⟨n + 1, hn⟩))) := by rw [img_iblk]; exact hx _
    have h0 : ¬ (⟨n + 1, hn⟩ : Fin cfg0.N).val % 48 = 0 := by
      have := lt_of_lt_of_eq hn N_0
      show ¬ (n + 1) % 48 = 0
      omega
    have e := ih (Nat.lt_of_succ_lt hn)
    have hs := BUF_edge (code (img (iblk m c 0 ⟨n, Nat.lt_of_succ_lt hn⟩)))
    have e1 : (outsAt0 m c ((⟨n + 1, hn⟩ : Fin cfg0.N).val - 1) (Nat.lt_of_le_of_lt (Nat.sub_le _ _) (⟨n + 1, hn⟩ : Fin cfg0.N).isLt)).2.2.2.1 = WD (V m c main_v1) (V m c main_v2) := congrArg (fun p => p.2.2.2.1) e
    have e2 : (outsAt0 m c ((⟨n + 1, hn⟩ : Fin cfg0.N).val - 1) (Nat.lt_of_le_of_lt (Nat.sub_le _ _) (⟨n + 1, hn⟩ : Fin cfg0.N).isLt)).2.2.2.2 = BUF (code (img (iblk m c 0 ⟨n, Nat.lt_of_succ_lt hn⟩))) := congrArg (fun p => p.2.2.2.2) e
    rw [outsAt0_B m c ⟨n + 1, hn⟩ h0, e1, e2, iblk1, iblk2, KernelPointB.dx_B _ _ _ _ _ _ _ _ _ _ _ _ _ _ _ _ _ _ _ _ _ ht _ _ hs, KernelPointB.code_B _ _ _ _ _ _ _ _ _ _ _ _ _ _ _ _ _ _ _ _ _ ht,
      KernelPointB.scl_B _ _ _ _ _ _ _ _ _ _ _ _ _ _ _ _ _ _ _ _ _ ht, KernelPointB.wd_B, KernelPointB.buf_B _ _ _ _ _ _ _ _ _ _ _ _ _ _ _ _ _ _ _ _ _ ht _ _ hs]

/-! ## The three result arrays -/

/-- The three results of the whole batch. -/
def R0 (A : Vec Ideal S48x16x64x768 .bf16) (B : Vec Ideal S3x3x512x768 .fp8e4m3) (s : Vec Ideal S768 .f32) : Vec Ideal S48x1024x512 .bf16 :=
  fun p => dx (image A (p 0)) (weight B s) (p 1) (p 2)
def R1 (A : Vec Ideal S48x16x64x768 .bf16) : Vec Ideal S48x1024x768 .fp8e5m2 := fun p => code (image A (p 0)) (p 1) (p 2)
def R2 (A : Vec Ideal S48x16x64x768 .bf16) : Vec Ideal S48x8x128 .f32 := fun p => scl (amax (image A (p 0)))

include hx in
theorem result0 : Value.G3 m c = R0 (A0 m c) (A1 m c) (A2 m c) := by
  funext p
  obtain ⟨n, r, d, rfl⟩ : ∃ (n : Fin 48) (r : Fin 1024) (d : Fin 512), p = ix3 n r d := ⟨p 0, p 1, p 2, eq_ix3 p⟩
  have hp : Value.pt3Of (ix3 n r d) = n.val := by
    show 1 * (n.val / 1 - 0) + 1 * (r.val / 1024 - 0) + 1 * (d.val / 512 - 0) = n.val
    omega
  have hn : n.val < cfg0.N := lt_of_lt_of_eq n.isLt N_0.symm
  have hl : Value.loc3Of (ix3 n r d) = ix3 (0 : Fin 1) r d := by
    funext a; apply Fin.ext
    match a with
    | ⟨0, _⟩ => show n.val % 1 = 0; omega
    | ⟨1, _⟩ => show r.val % 1024 = r.val; omega
    | ⟨2, _⟩ => show d.val % 512 = d.val; omega
  unfold Value.G3
  rw [dif_pos (by rw [hp]; exact hn), Value.fold0_congr m c _ _ n.val (by omega) hp, ← Value.outsAt0_sweep m c n.val hn, leaves m c hx n.val hn, hl]
  show dx (img (iblk m c 0 ⟨n.val, hn⟩)) (wt (V m c main_v1) (V m c main_v2)) r d = _
  rw [img_iblk, wt_V]
  rfl

include hx in
theorem result1 : Value.G4 m c = R1 (A0 m c) := by
  funext p
  obtain ⟨n, r, d, rfl⟩ : ∃ (n : Fin 48) (r : Fin 1024) (d : Fin 768), p = ix3 n r d := ⟨p 0, p 1, p 2, eq_ix3 p⟩
  have hp : Value.pt4Of (ix3 n r d) = n.val := by
    show 1 * (n.val / 1 - 0) + 1 * (r.val / 1024 - 0) + 1 * (d.val / 768 - 0) = n.val
    omega
  have hn : n.val < cfg0.N := lt_of_lt_of_eq n.isLt N_0.symm
  have hl : Value.loc4Of (ix3 n r d) = ix3 (0 : Fin 1) r d := by
    funext a; apply Fin.ext
    match a with
    | ⟨0, _⟩ => show n.val % 1 = 0; omega
    | ⟨1, _⟩ => show r.val % 1024 = r.val; omega
    | ⟨2, _⟩ => show d.val % 768 = d.val; omega
  unfold Value.G4
  rw [dif_pos (by rw [hp]; exact hn), Value.fold0_congr m c _ _ n.val (by omega) hp, ← Value.outsAt0_sweep m c n.val hn, leaves m c hx n.val hn, hl]
  exact congrArg (fun X => code X r d) (img_iblk m c ⟨n.val, hn⟩)

include hx in
theorem result2 : Value.G5 m c = R2 (A0 m c) := by
  funext p
  obtain ⟨n, r, d, rfl⟩ : ∃ (n : Fin 48) (r : Fin 8) (d : Fin 128), p = ix3 n r d := ⟨p 0, p 1, p 2, eq_ix3 p⟩
  have hp : Value.pt5Of (ix3 n r d) = n.val := by
    show 1 * (n.val / 1 - 0) + 1 * (r.val / 8 - 0) + 1 * (d.val / 128 - 0) = n.val
    omega
  have hn : n.val < cfg0.N := lt_of_lt_of_eq n.isLt N_0.symm
  unfold Value.G5
  rw [dif_pos (by rw [hp]; exact hn), Value.fold0_congr m c _ _ n.val (by omega) hp, ← Value.outsAt0_sweep m c n.val hn, leaves m c hx n.val hn]
  dsimp only [Left]
  unfold SCL R2
  rw [img_iblk]
  have e : (⟨n.val, lt_of_lt_of_eq hn N_0⟩ : Fin 48) = (ix3 n r d : S48x8x128.Idx) 0 := rfl
  exact congrArg (fun q : Fin 48 => scl (amax (image (A0 m c) q))) e

end Cert.KernelRun

end
-- ==== Proof.RefPoint.lean ====
/- The body of the reference, read element by element. -/
module

public import proofs.«01_k».proof.Proof.Arrays
public import proofs.«01_k».proof.Proof.Gen.ReferenceIdeal.Skeleton
public import Idealize.ShloMosaic.Lib.Pointwise

@[expose] public section

noncomputable section

namespace Cert.RefPoint

open Idealize.ShloMosaic Cert.ReferenceIdeal Cert.ReferenceIdeal.Gen Cert.Exponent Cert.Spec

/-- The padded images: zero outside the 16 × 64 pixels. -/
theorem pay11 (v : FVec Ideal S48x16x64x768 .bf16) (n : Fin 48) (Y : Fin 18) (X : Fin 66) (k : Fin 768) :
    k0_pay11 v 0 (ix4 n Y X k) = if h : 1 ≤ Y.val ∧ Y.val ≤ 16 ∧ 1 ≤ X.val ∧ X.val ≤ 64 then v (ix4 n (⟨Y.val - 1, by omega⟩ : Fin 16) (⟨X.val - 1, by omega⟩ : Fin 64) k) else 0 := by
  unfold k0_pay11
  pointwise
  by_cases h1 : X.val < 65
  · by_cases h2 : X.val < 1
    · rw [dif_pos h1, dif_pos h2, dif_neg (by omega)]
    · by_cases h3 : Y.val < 17
      · by_cases h4 : Y.val < 1
        · rw [dif_pos h1, dif_neg h2, dif_pos h3, dif_pos h4, dif_neg (by omega)]
        · rw [dif_pos h1, dif_neg h2, dif_pos h3, dif_neg h4, dif_pos (by omega)]
      · rw [dif_pos h1, dif_neg h2, dif_neg h3, dif_neg (by omega)]
  · rw [dif_neg h1, dif_neg (by omega)]

/-- A 16 × 64 window of the padded images. -/
theorem slice (P : FVec Ideal S48x18x66x768 .bf16) (i j : ℕ) (hi : i ≤ 2) (hj : j ≤ 2) (h) (n : Fin 48) (y : Fin 16) (x : Fin 64) (k : Fin 768) :
    extractStridedSlice S48x16x64x768 ![0, i, j, 0] P h (ix4 n y x k) = P (ix4 n (⟨i + y.val, by omega⟩ : Fin 18) (⟨j + x.val, by omega⟩ : Fin 66) k) := by
  pointwise

/-- One tap of the weights. -/
theorem sliceW (W : FVec Ideal S3x3x512x768 .bf16) (a b : ℕ) (ha : a ≤ 2) (hb : b ≤ 2) (h) (c : Fin 512) (k : Fin 768) :
    extractStridedSlice S1x1x512x768 ![a, b, 0, 0] W h (ix4 0 0 c k) = W (ix4 (⟨a, by omega⟩ : Fin 3) (⟨b, by omega⟩ : Fin 3) c k) := by
  pointwise

theorem dotR (B : FVec Ideal S48x16x64x768 .bf16) (W : FVec Ideal S1x1x512x768 .bf16) (R : Fin 49152) (c : Fin 512) :
    matmul dot_S49152x768_S512x768_S49152x512_1_1_0_0_n_n none (shapeCast S49152x768 B shapeCasts_S48x16x64x768_S49152x768)
      (shapeCast S512x768 W shapeCasts_S1x1x512x768_S512x768) (constant S49152x512 .f32 0x00000000#32) (ix2 R c)
      = ∑ k : Fin 768, B (ix4 (⟨R.val / 1024, by omega⟩ : Fin 48) (⟨R.val / 64 % 16, by omega⟩ : Fin 16) (⟨R.val % 64, by omega⟩ : Fin 64) k) * W (ix4 0 0 c k) := by
  pointwise

/-- One product: a window of the padded images against one tap of the weights. -/
def prod (P : FVec Ideal S48x18x66x768 .bf16) (W : FVec Ideal S3x3x512x768 .bf16) (i j : Fin 3) (R : Fin 49152) (c : Fin 512) : EReal :=
  ∑ k : Fin 768, P (ix4 (⟨R.val / 1024, by omega⟩ : Fin 48) (⟨i.val + R.val / 64 % 16, by omega⟩ : Fin 18) (⟨j.val + R.val % 64, by omega⟩ : Fin 66) k) * W (ix4 (2 - i) (2 - j) c k)

theorem prod_eq (P : FVec Ideal S48x18x66x768 .bf16) (W : FVec Ideal S3x3x512x768 .bf16) (i j a b : ℕ) (hi : i ≤ 2) (hj : j ≤ 2) (ha : i + a = 2) (hb : j + b = 2) (h) (h')
    (R : Fin 49152) (c : Fin 512) :
    matmul dot_S49152x768_S512x768_S49152x512_1_1_0_0_n_n none (shapeCast S49152x768 (extractStridedSlice S48x16x64x768 ![0, i, j, 0] P h) shapeCasts_S48x16x64x768_S49152x768)
      (shapeCast S512x768 (extractStridedSlice S1x1x512x768 ![a, b, 0, 0] W h') shapeCasts_S1x1x512x768_S512x768) (constant S49152x512 .f32 0x00000000#32) (ix2 R c)
      = prod P W ⟨i, by omega⟩ ⟨j, by omega⟩ R c := by
  rw [dotR]
  refine Finset.sum_congr rfl fun k _ => ?_
  have ea : (2 - ⟨i, by omega⟩ : Fin 3) = ⟨a, by omega⟩ := by
    obtain rfl : a = 2 - i := by omega
    interval_cases i <;> rfl
  have eb : (2 - ⟨j, by omega⟩ : Fin 3) = ⟨b, by omega⟩ := by
    obtain rfl : b = 2 - j := by omega
    interval_cases j <;> rfl
  rw [slice P i j hi hj, sliceW W a b (by omega) (by omega), ea, eb]

/-- The first seven products. -/
theorem pay12 (v : FVec Ideal S48x16x64x768 .bf16) (W : FVec Ideal S3x3x512x768 .bf16) (z : EReal) (R : Fin 49152) (c : Fin 512) :
    k0_pay12 v W z (ix2 R c) = Ideal.ofBits .f32 0x00000000#32 + prod (k0_pay11 v z) W 0 0 R c + prod (k0_pay11 v z) W 0 1 R c + prod (k0_pay11 v z) W 0 2 R c
      + prod (k0_pay11 v z) W 1 0 R c + prod (k0_pay11 v z) W 1 1 R c + prod (k0_pay11 v z) W 1 2 R c + prod (k0_pay11 v z) W 2 0 R c := by
  have e := fun i j a b hi hj ha hb h h' => (prod_eq (k0_pay11 v z) W i j a b hi hj ha hb h h' R c).symm
  refine Eq.trans ?_ (congrArg₂ (· + ·) (congrArg₂ (· + ·) (congrArg₂ (· + ·) (congrArg₂ (· + ·) (congrArg₂ (· + ·) (congrArg₂ (· + ·) (congrArg₂ (· + ·) rfl
    (e 0 0 2 2 (by omega) (by omega) rfl rfl slices_S48x18x66x768_o0_0_0_0_S48x16x64x768 slices_S3x3x512x768_o2_2_0_0_S1x1x512x768).symm)
    (e 0 1 2 1 (by omega) (by omega) rfl rfl slices_S48x18x66x768_o0_0_1_0_S48x16x64x768 slices_S3x3x512x768_o2_1_0_0_S1x1x512x768).symm)
    (e 0 2 2 0 (by omega) (by omega) rfl rfl slices_S48x18x66x768_o0_0_2_0_S48x16x64x768 slices_S3x3x512x768_o2_0_0_0_S1x1x512x768).symm)
    (e 1 0 1 2 (by omega) (by omega) rfl rfl slices_S48x18x66x768_o0_1_0_0_S48x16x64x768 slices_S3x3x512x768_o1_2_0_0_S1x1x512x768).symm)
    (e 1 1 1 1 (by omega) (by omega) rfl rfl slices_S48x18x66x768_o0_1_1_0_S48x16x64x768 slices_S3x3x512x768_o1_1_0_0_S1x1x512x768).symm)
    (e 1 2 1 0 (by omega) (by omega) rfl rfl slices_S48x18x66x768_o0_1_2_0_S48x16x64x768 slices_S3x3x512x768_o1_0_0_0_S1x1x512x768).symm)
    (e 2 0 0 2 (by omega) (by omega) rfl rfl slices_S48x18x66x768_o0_2_0_0_S48x16x64x768 slices_S3x3x512x768_o0_2_0_0_S1x1x512x768).symm)
  rfl

/-- The sum scaled and its rows split into images. -/
theorem tail (v : FVec Ideal S49152x512 .f32) (s : FVec Ideal S48x1x1x1 .f32) (n : Fin 48) (r : Fin 1024) (c : Fin 512) :
    (shapeCast S48x1024x512 (truncf .bf16 (mulf (shapeCast S48x16x64x512 v shapeCasts_S49152x512_S48x16x64x512)
      (broadcastTo S48x16x64x512 s broadcasts_S48x1x1x1_S48x16x64x512)) bitsLt_bf16_f32 : FVec Ideal S48x16x64x512 .bf16) shapeCasts_S48x16x64x512_S48x1024x512) (ix3 n r c)
      = v (ix2 (⟨n.val * 1024 + r.val, by omega⟩ : Fin 49152) c) * s (ix4 n 0 0 0) := by
  pointwise
  have e : n.val * 1024 + r.val / 64 * 64 + r.val % 64 = n.val * 1024 + r.val := by omega
  simp only [e]

theorem pay1 (s : FVec Ideal S48x1x1x1 .f32) (v : FVec Ideal S48x16x64x768 .bf16) (W : FVec Ideal S3x3x512x768 .bf16) (z : EReal) (n : Fin 48) (r : Fin 1024) (c : Fin 512) (R : Fin 49152)
    (hR : R = ⟨n.val * 1024 + r.val, by omega⟩) :
    k0_pay1 s W (k0_pay11 v z) (k0_pay12 v W z) (k0_pay13 v z) (ix3 n r c)
      = (k0_pay12 v W z (ix2 R c) + prod (k0_pay11 v z) W 2 1 R c + prod (k0_pay11 v z) W 2 2 R c) * s (ix4 n 0 0 0) := by
  subst hR
  refine (tail _ s n r c).trans ?_
  refine congrArg (· * s (ix4 n 0 0 0)) ?_
  exact congrArg₂ (· + ·) (congrArg₂ (· + ·) rfl
    (prod_eq (k0_pay11 v z) W 2 1 0 1 (by omega) (by omega) rfl rfl slices_S48x18x66x768_o0_2_1_0_S48x16x64x768 slices_S3x3x512x768_o0_1_0_0_S1x1x512x768 _ c))
    (prod_eq (k0_pay11 v z) W 2 2 0 0 (by omega) (by omega) rfl rfl slices_S48x18x66x768_o0_2_2_0_S48x16x64x768 slices_S3x3x512x768_o0_0_0_0_S1x1x512x768 _ c)

theorem pay10 : k0_pay10 (F := Ideal) = (0 : EReal) := by
  unfold k0_pay10
  show (((((0#32 : BitVec 32).toInt : ℤ) : ℝ)) : EReal) = 0
  simp

theorem pay9 (B : Vec Ideal S3x3x512x768 .fp8e4m3) (s : Vec Ideal S1x1x1x768 .f32) (a b : Fin 3) (c : Fin 512) (k : Fin 768) :
    k0_pay9 B s (ix4 a b c k) = B (ix4 a b c k) * s (ix4 0 0 0 k) := by
  unfold k0_pay9
  pointwise

/-- A window of padded codes is a tap. -/
theorem pad_tap (v : FVec Ideal S48x16x64x768 .bf16) (C : Img) (n : Fin 48) (hv : ∀ r k, v (ix4 n (⟨r.val / 64, by omega⟩ : Fin 16) (⟨r.val % 64, by omega⟩ : Fin 64) k) = C r k)
    (i j : Fin 3) (r : Fin 1024) (k : Fin 768) (Y : Fin 18) (X : Fin 66) (hY : Y.val = i.val + r.val / 64) (hX : X.val = j.val + r.val % 64) :
    k0_pay11 v 0 (ix4 n Y X k) = tap C i j r k := by
  rw [pay11]
  unfold tap
  by_cases h : 1 ≤ r.val / 64 + i.val ∧ r.val / 64 + i.val ≤ 16 ∧ 1 ≤ r.val % 64 + j.val ∧ r.val % 64 + j.val ≤ 64
  · rw [dif_pos h, dif_pos (by omega), ← hv]
    congr 2
    · exact Fin.ext (by show Y.val - 1 = (r.val + 64 * i.val + j.val - 65) / 64; omega)
    · exact Fin.ext (by show X.val - 1 = (r.val + 64 * i.val + j.val - 65) % 64; omega)
  · rw [dif_neg h, dif_neg (by omega)]

end Cert.RefPoint

end
-- ==== Proof.RefImage.lean ====
/- The reference's scale, codes and gradient of each image. -/
module

public import proofs.«01_k».proof.Proof.RefPoint

@[expose] public section

noncomputable section

namespace Cert.RefImage

open Idealize.ShloMosaic Cert.ReferenceIdeal Cert.ReferenceIdeal.Gen Cert.Exponent Cert.Spec Cert.RefPoint

/-- The largest of an image, over the three axes at once. -/
theorem red (x : FVec Ideal S48x16x64x768 .f32) (n : Fin 48) :
    multiReduction .maximumf [1, 2, 3] S48 x 0xFF800000#32 reduces_S48x16x64x768_S48 (.inl rfl) rfl (ix1 n)
      = Finset.univ.sup fun p : Fin 1024 × Fin 768 => x (ix4 n (⟨p.1.val / 64, by omega⟩ : Fin 16) (⟨p.1.val % 64, by omega⟩ : Fin 64) p.2) := by
  pointwise
  rw [ofBits_ninf_f32, fold_max]
  exact sup_fiber reduces_S48x16x64x768_S48.drop (fun i => Shape.Reduces.drop_apply_val _ i 0) x n _ (fun i => by simp)

/-- The exponent formula on a list of magnitudes. -/
theorem expo (M : FVec Ideal S48 .f32) (n : Fin 48) :
    select (cmpf .oeq (shapeCast S48x1x1x1 M shapeCasts_S48_S48x1x1x1) (broadcast S48x1x1x1 (Scalar.ofBits (F := Ideal) .f32 0x00000000#32)))
      (broadcast S48x1x1x1 (Scalar.ofBits (F := Ideal) .f32 0x00000000#32))
      (addf (floor (divf (log (mulf (shapeCast S48x1x1x1 M shapeCasts_S48_S48x1x1x1) (broadcast S48x1x1x1 (Scalar.ofBits (F := Ideal) .f32 0x37924925#32))))
        (log (broadcast S48x1x1x1 (Scalar.ofBits (F := Ideal) .f32 0x40000000#32))))) (broadcast S48x1x1x1 (Scalar.ofBits (F := Ideal) .f32 0x3F800000#32))) (ix4 n 0 0 0)
      = refExp (M (ix1 n)) := by
  unfold refExp
  pointwise

theorem abs_apply (x0 : Vec Ideal S48x16x64x768 .bf16) (i : S48x16x64x768.Idx) : absf (k0_pay4 x0) i = max (x0 i) (-(x0 i)) := by
  unfold k0_pay4
  rfl

theorem mag (x0 : Vec Ideal S48x16x64x768 .bf16) (n : Fin 48) :
    multiReduction .maximumf [1, 2, 3] S48 (absf (k0_pay4 x0)) 0xFF800000#32 reduces_S48x16x64x768_S48 (.inl rfl) rfl (ix1 n) = amax (image x0 n) := by
  rw [red]
  unfold amax image
  exact Finset.sup_congr rfl fun p _ => abs_apply x0 _

/-- The exponent of each image. -/
theorem pay5 (x0 : Vec Ideal S48x16x64x768 .bf16) (n : Fin 48) : k0_pay5 x0 (ix4 n 0 0 0) = refExp (amax (image x0 n)) := by
  unfold k0_pay5
  refine (expo _ n).trans ?_
  rw [mag]

theorem exp2_apply (E : FVec Ideal S48x1x1x1 .f32) (i : S48x1x1x1.Idx) : exp2 E i = Ideal.exp2 (E i) := rfl

theorem pay6 (x0 : Vec Ideal S48x16x64x768 .bf16) (n : Fin 48) : k0_pay6 x0 (ix4 n 0 0 0) = scl (amax (image x0 n)) := by
  unfold k0_pay6 scl
  rw [← pay5]
  exact exp2_apply _ _

/-- The clipped quotient on any exponents. -/
theorem quant (x0 : Vec Ideal S48x16x64x768 .bf16) (E : FVec Ideal S48x1x1x1 .f32) (n : Fin 48) (y : Fin 16) (x : Fin 64) (k : Fin 768) :
    (truncf .fp8e5m2 (minimumf (broadcast S48x16x64x768 (Scalar.ofBits (F := Ideal) .f32 0x47600000#32)) (maximumf (broadcast S48x16x64x768 (Scalar.ofBits (F := Ideal) .f32 0xC7600000#32))
      (mulf (k0_pay4 x0) (broadcastTo S48x16x64x768 (exp2 (subf (broadcast S48x1x1x1 (Scalar.ofBits (F := Ideal) .f32 0x00000000#32)) E)) broadcasts_S48x1x1x1_S48x16x64x768))))
        bitsLt_fp8e5m2_f32 : FVec Ideal S48x16x64x768 .fp8e5m2) (ix4 n y x k)
      = min (Ideal.ofBits .f32 0x47600000#32) (max (Ideal.ofBits .f32 0xC7600000#32) (x0 (ix4 n y x k) * Ideal.exp2 (0 - E (ix4 n 0 0 0)))) := by
  unfold k0_pay4
  pointwise
  rfl

/-- The codes. -/
theorem pay7 (x0 : Vec Ideal S48x16x64x768 .bf16) (n : Fin 48) (r : Fin 1024) (k : Fin 768) :
    k0_pay7 x0 (ix4 n (⟨r.val / 64, by omega⟩ : Fin 16) (⟨r.val % 64, by omega⟩ : Fin 64) k) = code (image x0 n) r k := by
  unfold code Exponent.inv
  rw [← pay5 x0 n]
  unfold k0_pay7
  refine (quant x0 (k0_pay5 x0) n _ _ k).trans ?_
  rfl

theorem pay8 (x0 : Vec Ideal S48x16x64x768 .bf16) (n : Fin 48) (r : Fin 1024) (k : Fin 768) :
    k0_pay8 x0 (ix4 n (⟨r.val / 64, by omega⟩ : Fin 16) (⟨r.val % 64, by omega⟩ : Fin 64) k) = code (image x0 n) r k := pay7 x0 n r k

/-- The codes as one matrix per image. -/
theorem pay2 (v : FVec Ideal S48x16x64x768 .fp8e5m2) (n : Fin 48) (r : Fin 1024) (k : Fin 768) :
    k0_pay2 v (ix3 n r k) = v (ix4 n (⟨r.val / 64, by omega⟩ : Fin 16) (⟨r.val % 64, by omega⟩ : Fin 64) k) := by
  unfold k0_pay2
  pointwise

/-- The scale of each image, spread over a tile. -/
theorem pay3 (v : FVec Ideal S48x1x1x1 .f32) (n : Fin 48) (a : Fin 8) (b : Fin 128) : k0_pay3 v (ix3 n a b) = v (ix4 n 0 0 0) := by
  unfold k0_pay3
  pointwise

/-- The gradient of one image. -/
theorem dx_eq (x0 : Vec Ideal S48x16x64x768 .bf16) (x1 : Vec Ideal S3x3x512x768 .fp8e4m3) (x2 : Vec Ideal S1x1x1x768 .f32) (s : Vec Ideal S768 .f32)
    (hs : ∀ k : Fin 768, x2 (ix4 0 0 0 k) = s (ix1 k)) (n : Fin 48) (r : Fin 1024) (c : Fin 512) :
    k0_pay1 (k0_pay6 x0) (k0_pay9 x1 x2) (k0_pay11 (k0_pay8 x0) (k0_pay10 (F := Ideal))) (k0_pay12 (k0_pay8 x0) (k0_pay9 x1 x2) (k0_pay10 (F := Ideal)))
      (k0_pay13 (k0_pay8 x0) (k0_pay10 (F := Ideal))) (ix3 n r c) = dx (image x0 n) (weight x1 s) r c := by
  have hp : ∀ i j : Fin 3, prod (k0_pay11 (k0_pay8 x0) 0) (k0_pay9 x1 x2) i j (⟨n.val * 1024 + r.val, by omega⟩ : Fin 49152) c = dot (code (image x0 n)) (weight x1 s) i j r c := by
    intro i j
    refine Finset.sum_congr rfl fun k _ => ?_
    have en : (⟨(n.val * 1024 + r.val) / 1024, by omega⟩ : Fin 48) = n := Fin.ext (by show (n.val * 1024 + r.val) / 1024 = n.val; omega)
    rw [pay9, hs, en, pad_tap (k0_pay8 x0) (code (image x0 n)) n (pay8 x0 n) i j r k]
    · rfl
    · show i.val + (n.val * 1024 + r.val) / 64 % 16 = i.val + r.val / 64; omega
    · show j.val + (n.val * 1024 + r.val) % 64 = j.val + r.val % 64; omega
  rw [pay10, pay1 _ _ _ _ _ _ _ _ rfl, pay12, pay6]
  simp only [hp]
  rw [dx]
  simp only [Fin.sum_univ_three]
  congr 1
  rw [Ideal.ofBits_zero_f32]
  abel

end Cert.RefImage

end
-- ==== Proof.RefOut.lean ====
/- The three buffers the reference's body leaves, as functions of its three inputs. -/
module

public import proofs.«01_k».proof.Proof.RefImage
public import proofs.«01_k».proof.Proof.Gen.ReferenceIdeal.Frame
public import Idealize.ShloMosaic.Lib.Pipeline.ValueKit.Acc

@[expose] public section

noncomputable section

namespace Cert.RefOut

open Idealize.ShloMosaic Cert.ReferenceIdeal Cert.ReferenceIdeal.Gen Cert.Exponent Cert.Spec Cert.RefPoint Cert.RefImage

variable (x0 : Vec Ideal S48x16x64x768 .bf16) (x1 : Vec Ideal S3x3x512x768 .fp8e4m3) (x2 : Vec Ideal S1x1x1x768 .f32)

theorem p14 : k0_pay14 x0 x1 x2 = k0_pay6 x0 := by
  unfold k0_pay14
  frame_out

theorem p15 : k0_pay15 x0 x1 x2 = k0_pay8 x0 := by
  unfold k0_pay15
  frame_out

theorem p16 : k0_pay16 x0 x1 x2 = k0_pay9 x1 x2 := by
  unfold k0_pay16
  frame_out

theorem out3 (s : Vec Ideal S768 .f32) (hs : ∀ k : Fin 768, x2 (ix4 0 0 0 k) = s (ix1 k)) (n : Fin 48) (r : Fin 1024) (d : Fin 512) :
    out0_3 x0 x1 x2 (ix3 n r d) = dx (image x0 n) (weight x1 s) r d := by
  rw [← dx_eq x0 x1 x2 s hs n r d]
  frame_out
  rw [p14, p15, p16]

theorem out4 (n : Fin 48) (r : Fin 1024) (k : Fin 768) : out0_4 x0 x1 x2 (ix3 n r k) = code (image x0 n) r k := by
  rw [← pay7 x0 n r k, ← pay2 (k0_pay7 x0) n r k]
  frame_out

theorem out5 (n : Fin 48) (a : Fin 8) (b : Fin 128) : out0_5 x0 x1 x2 (ix3 n a b) = scl (amax (image x0 n)) := by
  rw [← pay6 x0 n, ← pay3 (k0_pay6 x0) n a b]
  frame_out
  rw [p14]

end Cert.RefOut

end
-- ==== Proof.RefBlocks.lean ====
/- The run of the reference, its three result arrays named and read block by block. -/
module

public import proofs.«01_k».proof.Proof.Gen.ReferenceIdeal.Frame
public import Idealize.ShloMosaic.Lib.Pipeline.Value

@[expose] public section

noncomputable section

namespace Cert.RefBlocks

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- WHAT POINT `t` WRITES BACK to output window 4's array: the body's result for that window (`Gen.out0_4`), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- WHAT POINT `t` WRITES BACK to output window 5's array: the body's result for that window (`Gen.out0_5`), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_v1_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      kept_main_arg0 m r h c,
      kept_main_arg1 m r h c,
      kept_main_arg2 m r h c⟩)
    (run_main m ρ)

end Cert.RefBlocks

end
-- ==== Proof.RefRun.lean ====
/- The whole run of the reference: its three result arrays as functions of its three arguments. -/
module

public import proofs.«01_k».proof.Proof.RefOut
public import proofs.«01_k».proof.Proof.RefBlocks

@[expose] public section

noncomputable section

namespace Cert.RefRun

open Idealize.ShloMosaic Idealize.ShloMosaic.TcCoe Cert.ReferenceIdeal Cert.ReferenceIdeal.Gen Cert.Exponent Cert.Spec

variable (m : (ℓ : Loc nD τ sig) → Buf (Elt Ideal) ℓ) (c : Dev nD)

/-- The three arguments as arrays. -/
abbrev A0 : Vec Ideal S48x16x64x768 .bf16 := m ((c : Thread nD τ).loc main_arg0)
abbrev A1 : Vec Ideal S3x3x512x768 .fp8e4m3 := m ((c : Thread nD τ).loc main_arg1)
abbrev A2 : Vec Ideal S768 .f32 := m ((c : Thread nD τ).loc main_arg2)

theorem V0 : V m c main_v0 = shapeCast S1x1x1x768 (A2 m c) shapeCasts_S768_S1x1x1x768 := rfl

theorem cast0 (A : Vec Ideal S768 .f32) (k : Fin 768) : shapeCast S1x1x1x768 A shapeCasts_S768_S1x1x1x768 (ix4 0 0 0 k) = A (ix1 k) := by
  pointwise

/-! ## The one point reads its three inputs whole -/

theorem iblk0 (t : Fin cfg0.N) : (iblk m c 0 t : Vec Ideal S48x16x64x768 .bf16) = A0 m c := by
  have e : win0_0.index t = ![0, 0, 0, 0] := (by decide +kernel : ∀ t : Fin grid0.N, win0_0.index t = ![0, 0, 0, 0]) t
  refine Eq.trans ?_ (V_main_arg0 m c)
  funext y
  show V m c main_arg0 (((cfg0.win 0).blk t).view.emb y) = _
  refine congrArg _ ?_
  funext a
  apply Fin.ext
  match a with
  | ⟨0, _⟩ => show win0_0.index t (0 : Fin 4) * 48 + 1 * (y 0).val = (y 0).val; rw [e]; show 0 * 48 + 1 * (y 0).val = (y 0).val; omega
  | ⟨1, _⟩ => show win0_0.index t (1 : Fin 4) * 16 + 1 * (y 1).val = (y 1).val; rw [e]; show 0 * 16 + 1 * (y 1).val = (y 1).val; omega
  | ⟨2, _⟩ => show win0_0.index t (2 : Fin 4) * 64 + 1 * (y 2).val = (y 2).val; rw [e]; show 0 * 64 + 1 * (y 2).val = (y 2).val; omega
  | ⟨3, _⟩ => show win0_0.index t (3 : Fin 4) * 768 + 1 * (y 3).val = (y 3).val; rw [e]; show 0 * 768 + 1 * (y 3).val = (y 3).val; omega

theorem iblk1 (t : Fin cfg0.N) : (iblk m c 1 t : Vec Ideal S3x3x512x768 .fp8e4m3) = A1 m c := by
  have e : win0_1.index t = ![0, 0, 0, 0] := (by decide +kernel : ∀ t : Fin grid0.N, win0_1.index t = ![0, 0, 0, 0]) t
  refine Eq.trans ?_ (V_main_arg1 m c)
  funext y
  show V m c main_arg1 (((cfg0.win 1).blk t).view.emb y) = _
  refine congrArg _ ?_
  funext a
  apply Fin.ext
  match a with
  | ⟨0, _⟩ => show win0_1.index t (0 : Fin 4) * 3 + 1 * (y 0).val = (y 0).val; rw [e]; show 0 * 3 + 1 * (y 0).val = (y 0).val; omega
  | ⟨1, _⟩ => show win0_1.index t (1 : Fin 4) * 3 + 1 * (y 1).val = (y 1).val; rw [e]; show 0 * 3 + 1 * (y 1).val = (y 1).val; omega
  | ⟨2, _⟩ => show win0_1.index t (2 : Fin 4) * 512 + 1 * (y 2).val = (y 2).val; rw [e]; show 0 * 512 + 1 * (y 2).val = (y 2).val; omega
  | ⟨3, _⟩ => show win0_1.index t (3 : Fin 4) * 768 + 1 * (y 3).val = (y 3).val; rw [e]; show 0 * 768 + 1 * (y 3).val = (y 3).val; omega

theorem iblk2 (t : Fin cfg0.N) (k : Fin 768) : (iblk m c 2 t : Vec Ideal S1x1x1x768 .f32) (ix4 0 0 0 k) = A2 m c (ix1 k) := by
  rw [← cast0 (A2 m c) k, ← V0]
  have e : win0_2.index t = ![0, 0, 0, 0] := (by decide +kernel : ∀ t : Fin grid0.N, win0_2.index t = ![0, 0, 0, 0]) t
  show V m c main_v0 (((cfg0.win 2).blk t).view.emb (ix4 0 0 0 k)) = _
  refine congrArg _ ?_
  funext a
  apply Fin.ext
  match a with
  | ⟨0, _⟩ => show win0_2.index t (0 : Fin 4) * 1 + 1 * 0 = 0; rw [e]; rfl
  | ⟨1, _⟩ => show win0_2.index t (1 : Fin 4) * 1 + 1 * 0 = 0; rw [e]; rfl
  | ⟨2, _⟩ => show win0_2.index t (2 : Fin 4) * 1 + 1 * 0 = 0; rw [e]; rfl
  | ⟨3, _⟩ => show win0_2.index t (3 : Fin 4) * 768 + 1 * k.val = k.val; rw [e]; show 0 * 768 + 1 * k.val = k.val; omega

/-! ## It writes its three results whole -/

/-- The one point. -/
abbrev pt : Fin cfg0.N := ⟨0, by decide⟩

theorem emb3 (y : S48x1024x512.Idx) : ((cfg0.win 3).blk pt).view.emb y = y := by
  have e : win0_3.index pt = ![0, 0, 0] := (by decide +kernel : ∀ t : Fin grid0.N, win0_3.index t = ![0, 0, 0]) pt
  funext a
  apply Fin.ext
  match a with
  | ⟨0, _⟩ => show win0_3.index pt (0 : Fin 3) * 48 + 1 * (y 0).val = (y 0).val; rw [e]; show 0 * 48 + 1 * (y 0).val = (y 0).val; omega
  | ⟨1, _⟩ => show win0_3.index pt (1 : Fin 3) * 1024 + 1 * (y 1).val = (y 1).val; rw [e]; show 0 * 1024 + 1 * (y 1).val = (y 1).val; omega
  | ⟨2, _⟩ => show win0_3.index pt (2 : Fin 3) * 512 + 1 * (y 2).val = (y 2).val; rw [e]; show 0 * 512 + 1 * (y 2).val = (y 2).val; omega

theorem emb4 (y : S48x1024x768.Idx) : ((cfg0.win 4).blk pt).view.emb y = y := by
  have e : win0_4.index pt = ![0, 0, 0] := (by decide +kernel : ∀ t : Fin grid0.N, win0_4.index t = ![0, 0, 0]) pt
  funext a
  apply Fin.ext
  match a with
  | ⟨0, _⟩ => show win0_4.index pt (0 : Fin 3) * 48 + 1 * (y 0).val = (y 0).val; rw [e]; show 0 * 48 + 1 * (y 0).val = (y 0).val; omega
  | ⟨1, _⟩ => show win0_4.index pt (1 : Fin 3) * 1024 + 1 * (y 1).val = (y 1).val; rw [e]; show 0 * 1024 + 1 * (y 1).val = (y 1).val; omega
  | ⟨2, _⟩ => show win0_4.index pt (2 : Fin 3) * 768 + 1 * (y 2).val = (y 2).val; rw [e]; show 0 * 768 + 1 * (y 2).val = (y 2).val; omega

theorem emb5 (y : S48x8x128.Idx) : ((cfg0.win 5).blk pt).view.emb y = y := by
  have e : win0_5.index pt = ![0, 0, 0] := (by decide +kernel : ∀ t : Fin grid0.N, win0_5.index t = ![0, 0, 0]) pt
  funext a
  apply Fin.ext
  match a with
  | ⟨0, _⟩ => show win0_5.index pt (0 : Fin 3) * 48 + 1 * (y 0).val = (y 0).val; rw [e]; show 0 * 48 + 1 * (y 0).val = (y 0).val; omega
  | ⟨1, _⟩ => show win0_5.index pt (1 : Fin 3) * 8 + 1 * (y 1).val = (y 1).val; rw [e]; show 0 * 8 + 1 * (y 1).val = (y 1).val; omega
  | ⟨2, _⟩ => show win0_5.index pt (2 : Fin 3) * 128 + 1 * (y 2).val = (y 2).val; rw [e]; show 0 * 128 + 1 * (y 2).val = (y 2).val; omega

theorem result0 (n : Fin 48) (r : Fin 1024) (d : Fin 512) :
    ((dats m 0 c).arrAt 3 cfg0.N : Vec Ideal S48x1024x512 .bf16) (ix3 n r d) = dx (image (A0 m c) n) (weight (A1 m c) (A2 m c)) r d := by
  have h := congrFun ((RefBlocks.blocks3 m c pt (by decide +kernel)).trans (RefBlocks.flushed3 m c pt)) (ix3 n r d)
  rw [← RefOut.out3 (A0 m c) (A1 m c) (iblk m c 2 pt) (A2 m c) (iblk2 m c pt) n r d, ← iblk0 m c pt, ← iblk1 m c pt]
  refine Eq.trans ?_ h
  exact (congrArg _ (emb3 _)).symm

theorem result1 (n : Fin 48) (r : Fin 1024) (k : Fin 768) :
    ((dats m 0 c).arrAt 4 cfg0.N : Vec Ideal S48x1024x768 .fp8e5m2) (ix3 n r k) = code (image (A0 m c) n) r k := by
  have h := congrFun ((RefBlocks.blocks4 m c pt (by decide +kernel)).trans (RefBlocks.flushed4 m c pt)) (ix3 n r k)
  rw [← RefOut.out4 (A0 m c) (iblk m c 1 pt) (iblk m c 2 pt) n r k, ← iblk0 m c pt]
  refine Eq.trans ?_ h
  exact (congrArg _ (emb4 _)).symm

theorem result2 (n : Fin 48) (a : Fin 8) (b : Fin 128) :
    ((dats m 0 c).arrAt 5 cfg0.N : Vec Ideal S48x8x128 .f32) (ix3 n a b) = scl (amax (image (A0 m c) n)) := by
  have h := congrFun ((RefBlocks.blocks5 m c pt (by decide +kernel)).trans (RefBlocks.flushed5 m c pt)) (ix3 n a b)
  rw [← RefOut.out5 (A0 m c) (iblk m c 1 pt) (iblk m c 2 pt) n a b, ← iblk0 m c pt]
  refine Eq.trans ?_ h
  exact (congrArg _ (emb5 _)).symm

end Cert.RefRun

end
-- ==== Proof.Predicate.lean ====
/- What the precondition says: every image's largest magnitude is zero, or lies between two powers of two. -/
module

public import proofs.«01_k».proof.Proof.Arrays
public import proofs.«01_k».proof.Proof.Gen.Pre_in_range
public import Idealize.ShloMosaic.Lib.Pointwise

@[expose] public section

noncomputable section

namespace Cert.Predicate

open Idealize.ShloMosaic Cert.Pre_in_range Cert.Pre_in_range.Facts Cert.Exponent Cert.Spec

theorem red (x : FVec Ideal S48x16x64x768 .f32) (n : Fin 48) :
    Host.reduce FloatOps.maximumf x (constant S_ .f32 0xFF800000#32) reducesTo_S48x16x64x768_S48_d1_2_3 h_S_ (ix1 n)
      = Finset.univ.sup fun p : Fin 1024 × Fin 768 => x (ix4 n (⟨p.1.val / 64, by omega⟩ : Fin 16) (⟨p.1.val % 64, by omega⟩ : Fin 64) p.2) := by
  rw [Host.reduce_eq_fold]
  have e : (constant S_ .f32 0xFF800000#32 : FVec Ideal S_ .f32) (Shape.Idx.first h_S_) = ⊥ := ofBits_ninf_f32
  rw [e]
  refine (fold_max _ _).trans ?_
  exact sup_fiber reducesTo_S48x16x64x768_S48_d1_2_3.drop (fun i => Shape.ReducesTo.drop_apply_val _ i 0) x n _ (fun i => by simp)

theorem abs_apply (A : FVec Ideal S48x16x64x768 .bf16) (i : S48x16x64x768.Idx) : Host.absf (extf .f32 A bitsLt_bf16_f32) i = max (A i) (-(A i)) := rfl

theorem mag (A : FVec Ideal S48x16x64x768 .bf16) (n : Fin 48) :
    Host.reduce FloatOps.maximumf (Host.absf (extf .f32 A bitsLt_bf16_f32)) (constant S_ .f32 0xFF800000#32) reducesTo_S48x16x64x768_S48_d1_2_3 h_S_ (ix1 n)
      = amax (image A n) := by
  rw [red]
  unfold amax image
  exact Finset.sup_congr rfl fun p _ => abs_apply A _

/-- The three comparisons on a list of magnitudes. -/
theorem bounds (M : FVec Ideal S48 .f32) (n : Fin 48)
    (h : ori (cmpf .oeq M (broadcastInDim S48 ![] bcast_S_S48 (constant S_ .f32 0x00000000#32)))
      (andi (cmpf .oge M (broadcastInDim S48 ![] bcast_S_S48 (constant S_ .f32 0x07E00000#32)))
        (cmpf .ole M (broadcastInDim S48 ![] bcast_S_S48 (constant S_ .f32 0x7F7F0000#32)))) (ix1 n) = 1#1) :
    M (ix1 n) = 0 ∨ Ideal.ofBits .f32 0x07E00000#32 ≤ M (ix1 n) ∧ M (ix1 n) ≤ Ideal.ofBits .f32 0x7F7F0000#32 := by
  pointwise at h
  by_cases h1 : M (ix1 n) = 0
  · exact Or.inl h1
  · right
    constructor
    · by_contra h2
      rw [decide_eq_false h1, decide_eq_false h2] at h
      revert h
      cases decide (M (ix1 n) ≤ Ideal.ofBits .f32 0x7F7F0000#32) <;> decide
    · by_contra h2
      rw [decide_eq_false h1, decide_eq_false h2] at h
      revert h
      cases decide (Ideal.ofBits .f32 0x07E00000#32 ≤ M (ix1 n)) <;> decide

theorem lo : Ideal.ofBits .f32 0x07E00000#32 = ((7 * (2 : ℝ) ^ (-114 : ℤ) : ℝ) : EReal) := by
  have e1 : (0x07E00000#32).extractLsb' 31 1 = 0#1 := by decide
  have e2 : ((0x07E00000#32).extractLsb' 23 8).toNat = 15 := by decide
  have e3 : ((0x07E00000#32).extractLsb' 0 23).toNat = 6291456 := by decide
  simp only [Ideal.ofBits, Ideal.ieee]
  norm_num only [e1, e2, e3]
  rw [if_neg not_false, if_neg not_false, if_neg (by decide)]
  norm_num

theorem hi : ∃ r : ℝ, Ideal.ofBits .f32 0x7F7F0000#32 = (r : EReal) ∧ r < (2 : ℝ) ^ (128 : ℤ) := by
  have e1 : (0x7F7F0000#32).extractLsb' 31 1 = 0#1 := by decide
  have e2 : ((0x7F7F0000#32).extractLsb' 23 8).toNat = 254 := by decide
  have e3 : ((0x7F7F0000#32).extractLsb' 0 23).toNat = 8323072 := by decide
  simp only [Ideal.ofBits, Ideal.ieee]
  norm_num only [e1, e2, e3]
  rw [if_neg not_false, if_neg not_false, if_neg (by decide)]
  exact ⟨_, rfl, by norm_num⟩

/-- Each image's largest magnitude is in the range the two ways of finding the exponent agree on. -/
theorem inRange (A : FVec Ideal S48x16x64x768 .bf16) (B : FVec Ideal S3x3x512x768 .fp8e4m3) (s : FVec Ideal S768 .f32)
    (h : fn A B s = fun _ => 1#1) (n : Fin 48) : InRange (amax (image A n)) := by
  have h1 := bounds _ n (congrFun h (ix1 n))
  dsimp only at h1
  rw [mag, lo] at h1
  obtain ⟨q, hq, hl⟩ := hi
  rw [hq] at h1
  rcases h1 with h1 | ⟨h1, h2⟩
  · exact Or.inl h1
  · right
    generalize amax (image A n) = a at h1 h2
    induction a using EReal.rec with
    | bot => exact absurd h1 (not_le.mpr (EReal.bot_lt_coe _))
    | top => exact absurd h2 (by simp)
    | coe r => exact ⟨r, rfl, EReal.coe_le_coe_iff.1 h1, lt_of_le_of_lt (EReal.coe_le_coe_iff.1 h2) hl⟩

end Cert.Predicate

end
-- ==== Proof.Equal.lean ====
/- The two programs end with equal results. -/
module

public import proofs.«01_k».proof.Defs
public import proofs.«01_k».proof.Proof.KernelRun
public import proofs.«01_k».proof.Proof.RefRun
public import proofs.«01_k».proof.Proof.Predicate

@[expose] public section

noncomputable section

namespace Cert.Equal

open Idealize.ShloMosaic Idealize.ShloMosaic.TcCoe Idealize.SL.Sem Cert.Spec

theorem algebraic : Cert.algebraic_KernelIdeal_ReferenceIdeal_pre_in_range := by
  intro m g m' g' hpre hargs
  have hx : ∀ (c : Dev Cert.KernelIdeal.nD) (n : Fin 48), Exponent.InRange (amax (image (KernelRun.A0 m c) n)) := fun c n =>
    Predicate.inRange _ _ _ (hpre c) n
  refine ⟨fun c => KernelRun.R0 (KernelRun.A0 m c) (KernelRun.A1 m c) (KernelRun.A2 m c), fun c => KernelRun.R1 (KernelRun.A0 m c), fun c => KernelRun.R2 (KernelRun.A0 m c), ?_, ?_⟩
  · refine (θ_run _ _ _).mono (fun r h c => ?_) (Cert.KernelIdeal.Value.run m g)
    obtain ⟨h0, h1, h2, ha⟩ := h c
    exact ⟨h0.trans (KernelRun.result0 m c (hx c)), h1.trans (KernelRun.result1 m c (hx c)), h2.trans (KernelRun.result2 m c (hx c)), ha⟩
  · refine (θ_run _ _ _).mono (fun r h c => ?_) (RefBlocks.run_blocks m' g')
    obtain ⟨h0, h1, h2, ha⟩ := h c
    obtain ⟨e0, e1, e2⟩ := hargs c
    have e0 : RefRun.A0 m' c = KernelRun.A0 m c := e0
    have e1 : RefRun.A1 m' c = KernelRun.A1 m c := e1
    have e2 : RefRun.A2 m' c = KernelRun.A2 m c := e2
    refine ⟨h0.trans ?_, h1.trans ?_, h2.trans ?_, ha⟩
    · funext p
      obtain ⟨n, r, d, rfl⟩ : ∃ (n : Fin 48) (r : Fin 1024) (d : Fin 512), p = ix3 n r d := ⟨p 0, p 1, p 2, eq_ix3 p⟩
      refine (RefRun.result0 m' c n r d).trans ?_
      rw [e0, e1, e2]
      rfl
    · funext p
      obtain ⟨n, r, d, rfl⟩ : ∃ (n : Fin 48) (r : Fin 1024) (d : Fin 768), p = ix3 n r d := ⟨p 0, p 1, p 2, eq_ix3 p⟩
      refine (RefRun.result1 m' c n r d).trans ?_
      rw [e0]
      rfl
    · funext p
      obtain ⟨n, a, b, rfl⟩ : ∃ (n : Fin 48) (a : Fin 8) (b : Fin 128), p = ix3 n a b := ⟨p 0, p 1, p 2, eq_ix3 p⟩
      refine (RefRun.result2 m' c n a b).trans ?_
      rw [e0]
      rfl

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.KernelIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial, Cert.Equal.algebraic⟩

end Cert.Proof

end
